-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_sorted_finite : Cert.Pre_sorted_finite.Facts),
    quiescent_Kernel (hKernel := hKernel) (hPre_in_range := hPre_in_range)
    ∧ quiescent_KernelIdeal (hKernelIdeal := hKernelIdeal) (hPre_in_range := hPre_in_range)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_in_range.lean ====
abbrev S100000x256 : Shape := ⟨2, ![100000, 256]⟩
abbrev S100000 : Shape := ⟨1, ![100000]⟩
abbrev S256x512 : Shape := ⟨2, ![256, 512]⟩
abbrev S512x256 : Shape := ⟨2, ![512, 256]⟩
abbrev S256 : Shape := ⟨1, ![256]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x256 .f32) (main_arg1 : IVec S100000 32) (main_arg2 : FVec F S256x512 .f32) (main_arg3 : FVec F S512x256 .f32) (main_arg4 : FVec F S256 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  main_v4
-- ==== Pre_sorted_finite.lean ====
abbrev S100000x256 : Shape := ⟨2, ![100000, 256]⟩
abbrev S100000 : Shape := ⟨1, ![100000]⟩
abbrev S256x512 : Shape := ⟨2, ![256, 512]⟩
abbrev S512x256 : Shape := ⟨2, ![512, 256]⟩
abbrev S256 : Shape := ⟨1, ![256]⟩
abbrev S_ : Shape := ⟨0, ![]⟩
abbrev S99999 : Shape := ⟨1, ![99999]⟩

class Facts : Prop where
  bcast_S_S100000 : S_.BroadcastsInDim S100000 (![] : Fin 0 → Fin S100000.rank)
  slices_S100000_S99999_0 : S100000.Slices ![0] S99999
  slices_S100000_S99999_1 : S100000.Slices ![1] S99999
  bcast_S_S100000x256 : S_.BroadcastsInDim S100000x256 (![] : Fin 0 → Fin S100000x256.rank)
  bcast_S_S256x512 : S_.BroadcastsInDim S256x512 (![] : Fin 0 → Fin S256x512.rank)

variable [Facts]

def fn {F : FTy → Type} [FloatOps F] (main_arg0 : FVec F S100000x256 .f32) (main_arg1 : IVec S100000 32) (main_arg2 : FVec F S256x512 .f32) (main_arg3 : FVec F S512x256 .f32) (main_arg4 : FVec F S256 .f32) : IVec S100000 1 × IVec S99999 1 × IVec S100000x256 1 × IVec S256x512 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_v5 : IVec S99999 32 := (extractStridedSlice S99999 ![0] · slices_S100000_S99999_0) main_arg1
  let main_v6 : IVec S99999 32 := (extractStridedSlice S99999 ![1] · slices_S100000_S99999_1) main_arg1
  let main_v7 : IVec S99999 1 := cmpi .sle main_v5 main_v6
  let main_v8 : FVec F S100000x256 .f32 := Host.absf main_arg0
  let main_cst : FVec F S_ .f32 := constant S_ .f32 0x7F800000#32
  let main_v9 : FVec F S100000x256 .f32 := broadcastInDim S100000x256 ![] bcast_S_S100000x256 main_cst
  let main_v10 : IVec S100000x256 1 := cmpf .olt main_v8 main_v9
  let main_v11 : FVec F S256x512 .f32 := Host.absf main_arg2
  let main_cst_1 : FVec F S_ .f32 := constant S_ .f32 0x7F800000#32
  let main_v12 : FVec F S256x512 .f32 := broadcastInDim S256x512 ![] bcast_S_S256x512 main_cst_1
  let main_v13 : IVec S256x512 1 := cmpf .olt main_v11 main_v12
  (main_v4, main_v7, main_v10, main_v13)
-- ==== Kernel.lean ====
abbrev S100000x256 : Shape := ⟨2, ![100000, 256]⟩
abbrev S100000 : Shape := ⟨1, ![100000]⟩
abbrev S256x512 : Shape := ⟨2, ![256, 512]⟩
abbrev S512x256 : Shape := ⟨2, ![512, 256]⟩
abbrev S256 : Shape := ⟨1, ![256]⟩
abbrev S_ : Shape := ⟨0, ![]⟩
abbrev S100352x256 : Shape := ⟨2, ![100352, 256]⟩
abbrev S100352 : Shape := ⟨1, ![100352]⟩
abbrev S196x1x512 : Shape := ⟨3, ![196, 1, 512]⟩
abbrev S196x512x1 : Shape := ⟨3, ![196, 512, 1]⟩
abbrev S256x256 : Shape := ⟨2, ![256, 256]⟩
abbrev S256x128 : Shape := ⟨2, ![256, 128]⟩
abbrev S256x384 : Shape := ⟨2, ![256, 384]⟩
abbrev S1x256 : Shape := ⟨2, ![1, 256]⟩
abbrev S1x1x512 : Shape := ⟨3, ![1, 1, 512]⟩
abbrev S1x512x1 : Shape := ⟨3, ![1, 512, 1]⟩
abbrev S640x384 : Shape := ⟨2, ![640, 384]⟩
abbrev S512x128 : Shape := ⟨2, ![512, 128]⟩
abbrev S640x1 : Shape := ⟨2, ![640, 1]⟩
abbrev S1x512 : Shape := ⟨2, ![1, 512]⟩
abbrev S512x1 : Shape := ⟨2, ![512, 1]⟩
abbrev S512x384 : Shape := ⟨2, ![512, 384]⟩
abbrev S1x1x1 : Shape := ⟨3, ![1, 1, 1]⟩
abbrev S64x512 : Shape := ⟨2, ![64, 512]⟩
abbrev S64x384 : Shape := ⟨2, ![64, 384]⟩
abbrev S64x1 : Shape := ⟨2, ![64, 1]⟩
abbrev S128 : Shape := ⟨1, ![128]⟩
abbrev S1x128 : Shape := ⟨2, ![1, 128]⟩
abbrev S512x512 : Shape := ⟨2, ![512, 512]⟩

abbrev nBuf : Space → Nat
  | .hbm => 20
  | .vmem => 14
  | .smem => 2
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x512, .f32⟩
  | .hbm, ⟨3, _⟩ => ⟨S512x256, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S100352x256, .f32⟩
  | .hbm, ⟨8, _⟩ => ⟨S_, .i32⟩
  | .hbm, ⟨9, _⟩ => ⟨S_, .i32⟩
  | .hbm, ⟨10, _⟩ => ⟨S100352, .i32⟩
  | .hbm, ⟨11, _⟩ => ⟨S196x1x512, .i32⟩
  | .hbm, ⟨12, _⟩ => ⟨S196x512x1, .i32⟩
  | .hbm, ⟨13, _⟩ => ⟨S196x1x512, .i32⟩
  | .hbm, ⟨14, _⟩ => ⟨S256x256, .f32⟩
  | .hbm, ⟨15, _⟩ => ⟨S256x256, .f32⟩
  | .hbm, ⟨16, _⟩ => ⟨S256x128, .f32⟩
  | .hbm, ⟨17, _⟩ => ⟨S256x384, .f32⟩
  | .hbm, ⟨18, _⟩ => ⟨S1x256, .f32⟩
  | .hbm, ⟨19, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S1x1x512, .i32⟩
  | .local _ .vmem, ⟨3, _⟩ => ⟨S1x1x512, .i32⟩
  | .local _ .vmem, ⟨4, _⟩ => ⟨S1x512x1, .i32⟩
  | .local _ .vmem, ⟨5, _⟩ => ⟨S1x512x1, .i32⟩
  | .local _ .vmem, ⟨6, _⟩ => ⟨S256x256, .f32⟩
  | .local _ .vmem, ⟨7, _⟩ => ⟨S256x384, .f32⟩
  | .local _ .vmem, ⟨8, _⟩ => ⟨S512x256, .f32⟩
  | .local _ .vmem, ⟨9, _⟩ => ⟨S1x256, .f32⟩
  | .local _ .vmem, ⟨10, _⟩ => ⟨S512x256, .f32⟩
  | .local _ .vmem, ⟨11, _⟩ => ⟨S640x384, .f32⟩
  | .local _ .vmem, ⟨12, _⟩ => ⟨S512x128, .f32⟩
  | .local _ .vmem, ⟨13, _⟩ => ⟨S640x1, .f32⟩
  | .local _ .smem, ⟨0, _⟩ => ⟨S1x1x512, .i32⟩
  | .local _ .smem, ⟨1, _⟩ => ⟨S1x1x512, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![196], ![false]⟩

@[reducible] def k0_t1_loop (v17 : BitVec 32) (v18 : BitVec 32) : Scf.Loop 32 :=
  let c0_i32_29 : BitVec 32 := 0#32
  let c511_i32 : BitVec 32 := 511#32
  let v19 : BitVec 32 := Scalar.minsi v18 c511_i32
  let c0_i32_15 : BitVec 32 := 0#32
  let v21 : BitVec 1 := Scalar.cmpi .sgt v17 c0_i32_15
  let v22 : BitVec 32 := Scalar.extui v21
  let c0_i32_16 : BitVec 32 := 0#32
  let v23 : BitVec 1 := Scalar.cmpi .slt v17 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v17 c8_i32
  let c0_i32_19 : BitVec 32 := 0#32
  let v33 : BitVec 1 := Scalar.cmpi .ne v32 c0_i32_19
  let v34 : BitVec 1 := Scalar.andi v31 v33
  let v20 : BitVec 32 := Scalar.divsi v17 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let v38 : BitVec 32 := Scalar.subi v19 v37
  let c0_i32_21 : BitVec 32 := 0#32
  let v40 : BitVec 1 := Scalar.cmpi .sgt v38 c0_i32_21
  let v41 : BitVec 32 := Scalar.extui v40
  let c0_i32_22 : BitVec 32 := 0#32
  let v42 : BitVec 1 := Scalar.cmpi .slt v38 c0_i32_22
  let v43 : BitVec 32 := Scalar.extui v42
  let v44 : BitVec 32 := Scalar.subi v41 v43
  let c64_i32 : BitVec 32 := 64#32
  let c0_i32_23 : BitVec 32 := 0#32
  let v45 : BitVec 1 := Scalar.cmpi .sgt c64_i32 c0_i32_23
  let v46 : BitVec 32 := Scalar.extui v45
  let c0_i32_24 : BitVec 32 := 0#32
  let v47 : BitVec 1 := Scalar.cmpi .slt c64_i32 c0_i32_24
  let v48 : BitVec 32 := Scalar.extui v47
  let v49 : BitVec 32 := Scalar.subi v46 v48
  let v50 : BitVec 1 := Scalar.cmpi .ne v44 v49
  let v51 : BitVec 32 := Scalar.remsi v38 c64_i32
  let c0_i32_25 : BitVec 32 := 0#32
  let v52 : BitVec 1 := Scalar.cmpi .ne v51 c0_i32_25
  let v53 : BitVec 1 := Scalar.andi v50 v52
  let v39 : BitVec 32 := Scalar.divsi v38 c64_i32
  let c1_i32_26 : BitVec 32 := 1#32
  let v54 : BitVec 32 := Scalar.subi v39 c1_i32_26
  let v55 : BitVec 32 := Scalar.select v53 v54 v39
  let c1_i32_27 : BitVec 32 := 1#32
  let v56 : BitVec 32 := Scalar.addi v55 c1_i32_27
  let v57 : BitVec 32 := Scalar.subi v56 c0_i32_29
  let c1_i32_30 : BitVec 32 := 1#32
  let v59 : BitVec 32 := Scalar.divsi v57 c1_i32_30
  let v60 : BitVec 32 := Scalar.muli v59 c1_i32_30
  let v61 : BitVec 32 := Scalar.addi c0_i32_29 v60
  let c1_i32_31 : BitVec 32 := 1#32
  ⟨c0_i32_29, v61, c1_i32_31⟩

def k0_off1 (v17 : BitVec 32) (v18 : BitVec 32) (k0_t1 : Fin (k0_t1_loop v17 v18).trips) : Fin 2 → Nat :=
  let c0_i32_15 : BitVec 32 := 0#32
  let v21 : BitVec 1 := Scalar.cmpi .sgt v17 c0_i32_15
  let v22 : BitVec 32 := Scalar.extui v21
  let c0_i32_16 : BitVec 32 := 0#32
  let v23 : BitVec 1 := Scalar.cmpi .slt v17 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v17 c8_i32
  let c0_i32_19 : BitVec 32 := 0#32
  let v33 : BitVec 1 := Scalar.cmpi .ne v32 c0_i32_19
  let v34 : BitVec 1 := Scalar.andi v31 v33
  let v20 : BitVec 32 := Scalar.divsi v17 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let c0_i32_29 : BitVec 32 := 0#32
  let c1_i32_31 : BitVec 32 := 1#32
  let arg13 : BitVec 32 := Scf.iv c0_i32_29 c1_i32_31 k0_t1
  let c64_i32_40 : BitVec 32 := 64#32
  let v72 : BitVec 32 := Scalar.muli arg13 c64_i32_40
  let v73 : BitVec 32 := Scalar.addi v37 v72
  let v81 : Index := Scalar.indexCast v73
  let c0_41 : Index := 0#32
  ![v81.toNat, 0]
def k0_off2 (v17 : BitVec 32) (v18 : BitVec 32) (k0_t1 : Fin (k0_t1_loop v17 v18).trips) : Fin 2 → Nat :=
  let c0_i32_15 : BitVec 32 := 0#32
  let v21 : BitVec 1 := Scalar.cmpi .sgt v17 c0_i32_15
  let v22 : BitVec 32 := Scalar.extui v21
  let c0_i32_16 : BitVec 32 := 0#32
  let v23 : BitVec 1 := Scalar.cmpi .slt v17 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v17 c8_i32
  let c0_i32_19 : BitVec 32 := 0#32
  let v33 : BitVec 1 := Scalar.cmpi .ne v32 c0_i32_19
  let v34 : BitVec 1 := Scalar.andi v31 v33
  let v20 : BitVec 32 := Scalar.divsi v17 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let c0_i32_29 : BitVec 32 := 0#32
  let c1_i32_31 : BitVec 32 := 1#32
  let arg13 : BitVec 32 := Scf.iv c0_i32_29 c1_i32_31 k0_t1
  let c64_i32_40 : BitVec 32 := 64#32
  let v72 : BitVec 32 := Scalar.muli arg13 c64_i32_40
  let v73 : BitVec 32 := Scalar.addi v37 v72
  let v89 : Index := Scalar.indexCast v73
  let c0_44 : Index := 0#32
  ![v89.toNat, 0]
@[reducible] def k0_t2_loop (v17 : BitVec 32) (v18 : BitVec 32) : Scf.Loop 32 :=
  let c0_i32_29 : BitVec 32 := 0#32
  let c511_i32 : BitVec 32 := 511#32
  let v19 : BitVec 32 := Scalar.minsi v18 c511_i32
  let c0_i32_15 : BitVec 32 := 0#32
  let v21 : BitVec 1 := Scalar.cmpi .sgt v17 c0_i32_15
  let v22 : BitVec 32 := Scalar.extui v21
  let c0_i32_16 : BitVec 32 := 0#32
  let v23 : BitVec 1 := Scalar.cmpi .slt v17 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v17 c8_i32
  let c0_i32_19 : BitVec 32 := 0#32
  let v33 : BitVec 1 := Scalar.cmpi .ne v32 c0_i32_19
  let v34 : BitVec 1 := Scalar.andi v31 v33
  let v20 : BitVec 32 := Scalar.divsi v17 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let v38 : BitVec 32 := Scalar.subi v19 v37
  let c0_i32_21 : BitVec 32 := 0#32
  let v40 : BitVec 1 := Scalar.cmpi .sgt v38 c0_i32_21
  let v41 : BitVec 32 := Scalar.extui v40
  let c0_i32_22 : BitVec 32 := 0#32
  let v42 : BitVec 1 := Scalar.cmpi .slt v38 c0_i32_22
  let v43 : BitVec 32 := Scalar.extui v42
  let v44 : BitVec 32 := Scalar.subi v41 v43
  let c64_i32 : BitVec 32 := 64#32
  let c0_i32_23 : BitVec 32 := 0#32
  let v45 : BitVec 1 := Scalar.cmpi .sgt c64_i32 c0_i32_23
  let v46 : BitVec 32 := Scalar.extui v45
  let c0_i32_24 : BitVec 32 := 0#32
  let v47 : BitVec 1 := Scalar.cmpi .slt c64_i32 c0_i32_24
  let v48 : BitVec 32 := Scalar.extui v47
  let v49 : BitVec 32 := Scalar.subi v46 v48
  let v50 : BitVec 1 := Scalar.cmpi .ne v44 v49
  let v51 : BitVec 32 := Scalar.remsi v38 c64_i32
  let c0_i32_25 : BitVec 32 := 0#32
  let v52 : BitVec 1 := Scalar.cmpi .ne v51 c0_i32_25
  let v53 : BitVec 1 := Scalar.andi v50 v52
  let v39 : BitVec 32 := Scalar.divsi v38 c64_i32
  let c1_i32_26 : BitVec 32 := 1#32
  let v54 : BitVec 32 := Scalar.subi v39 c1_i32_26
  let v55 : BitVec 32 := Scalar.select v53 v54 v39
  let c1_i32_27 : BitVec 32 := 1#32
  let v56 : BitVec 32 := Scalar.addi v55 c1_i32_27
  let v57 : BitVec 32 := Scalar.subi v56 c0_i32_29
  let c1_i32_30 : BitVec 32 := 1#32
  let v59 : BitVec 32 := Scalar.divsi v57 c1_i32_30
  let v60 : BitVec 32 := Scalar.muli v59 c1_i32_30
  let v61 : BitVec 32 := Scalar.addi c0_i32_29 v60
  let v58 : BitVec 32 := Scalar.addi c0_i32_29 v57
  let c1_i32_32 : BitVec 32 := 1#32
  ⟨v61, v58, c1_i32_32⟩
def k0_off3 (v17 : BitVec 32) (v18 : BitVec 32) (k0_t2 : Fin (k0_t2_loop v17 v18).trips) : Fin 2 → Nat :=
  let c0_i32_15 : BitVec 32 := 0#32
  let v21 : BitVec 1 := Scalar.cmpi .sgt v17 c0_i32_15
  let v22 : BitVec 32 := Scalar.extui v21
  let c0_i32_16 : BitVec 32 := 0#32
  let v23 : BitVec 1 := Scalar.cmpi .slt v17 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v17 c8_i32
  let c0_i32_19 : BitVec 32 := 0#32
  let v33 : BitVec 1 := Scalar.cmpi .ne v32 c0_i32_19
  let v34 : BitVec 1 := Scalar.andi v31 v33
  let v20 : BitVec 32 := Scalar.divsi v17 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let c0_i32_29 : BitVec 32 := 0#32
  let c511_i32 : BitVec 32 := 511#32
  let v19 : BitVec 32 := Scalar.minsi v18 c511_i32
  let v38 : BitVec 32 := Scalar.subi v19 v37
  let c0_i32_21 : BitVec 32 := 0#32
  let v40 : BitVec 1 := Scalar.cmpi .sgt v38 c0_i32_21
  let v41 : BitVec 32 := Scalar.extui v40
  let c0_i32_22 : BitVec 32 := 0#32
  let v42 : BitVec 1 := Scalar.cmpi .slt v38 c0_i32_22
  let v43 : BitVec 32 := Scalar.extui v42
  let v44 : BitVec 32 := Scalar.subi v41 v43
  let c64_i32 : BitVec 32 := 64#32
  let c0_i32_23 : BitVec 32 := 0#32
  let v45 : BitVec 1 := Scalar.cmpi .sgt c64_i32 c0_i32_23
  let v46 : BitVec 32 := Scalar.extui v45
  let c0_i32_24 : BitVec 32 := 0#32
  let v47 : BitVec 1 := Scalar.cmpi .slt c64_i32 c0_i32_24
  let v48 : BitVec 32 := Scalar.extui v47
  let v49 : BitVec 32 := Scalar.subi v46 v48
  let v50 : BitVec 1 := Scalar.cmpi .ne v44 v49
  let v51 : BitVec 32 := Scalar.remsi v38 c64_i32
  let c0_i32_25 : BitVec 32 := 0#32
  let v52 : BitVec 1 := Scalar.cmpi .ne v51 c0_i32_25
  let v53 : BitVec 1 := Scalar.andi v50 v52
  let v39 : BitVec 32 := Scalar.divsi v38 c64_i32
  let c1_i32_26 : BitVec 32 := 1#32
  let v54 : BitVec 32 := Scalar.subi v39 c1_i32_26
  let v55 : BitVec 32 := Scalar.select v53 v54 v39
  let c1_i32_27 : BitVec 32 := 1#32
  let v56 : BitVec 32 := Scalar.addi v55 c1_i32_27
  let v57 : BitVec 32 := Scalar.subi v56 c0_i32_29
  let c1_i32_30 : BitVec 32 := 1#32
  let v59 : BitVec 32 := Scalar.divsi v57 c1_i32_30
  let v60 : BitVec 32 := Scalar.muli v59 c1_i32_30
  let v61 : BitVec 32 := Scalar.addi c0_i32_29 v60
  let c1_i32_32 : BitVec 32 := 1#32
  let arg13 : BitVec 32 := Scf.iv v61 c1_i32_32 k0_t2
  let c64_i32_40 : BitVec 32 := 64#32
  let v72 : BitVec 32 := Scalar.muli arg13 c64_i32_40
  let v73 : BitVec 32 := Scalar.addi v37 v72
  let v81 : Index := Scalar.indexCast v73
  let c0_41 : Index := 0#32
  ![v81.toNat, 0]
def k0_off4 (v17 : BitVec 32) (v18 : BitVec 32) (k0_t2 : Fin (k0_t2_loop v17 v18).trips) : Fin 2 → Nat :=
  let c0_i32_15 : BitVec 32 := 0#32
  let v21 : BitVec 1 := Scalar.cmpi .sgt v17 c0_i32_15
  let v22 : BitVec 32 := Scalar.extui v21
  let c0_i32_16 : BitVec 32 := 0#32
  let v23 : BitVec 1 := Scalar.cmpi .slt v17 c0_i32_16
  let v24 : BitVec 32 := Scalar.extui v23
  let v25 : BitVec 32 := Scalar.subi v22 v24
  let c8_i32 : BitVec 32 := 8#32
  let c0_i32_17 : BitVec 32 := 0#32
  let v26 : BitVec 1 := Scalar.cmpi .sgt c8_i32 c0_i32_17
  let v27 : BitVec 32 := Scalar.extui v26
  let c0_i32_18 : BitVec 32 := 0#32
  let v28 : BitVec 1 := Scalar.cmpi .slt c8_i32 c0_i32_18
  let v29 : BitVec 32 := Scalar.extui v28
  let v30 : BitVec 32 := Scalar.subi v27 v29
  let v31 : BitVec 1 := Scalar.cmpi .ne v25 v30
  let v32 : BitVec 32 := Scalar.remsi v17 c8_i32
  let c0_i32_19 : BitVec 32 := 0#32
  let v33 : BitVec 1 := Scalar.cmpi .ne v32 c0_i32_19
  let v34 : BitVec 1 := Scalar.andi v31 v33
  let v20 : BitVec 32 := Scalar.divsi v17 c8_i32
  let c1_i32 : BitVec 32 := 1#32
  let v35 : BitVec 32 := Scalar.subi v20 c1_i32
  let v36 : BitVec 32 := Scalar.select v34 v35 v20
  let c8_i32_20 : BitVec 32 := 8#32
  let v37 : BitVec 32 := Scalar.muli v36 c8_i32_20
  let c0_i32_29 : BitVec 32 := 0#32
  let c511_i32 : BitVec 32 := 511#32
  let v19 : BitVec 32 := Scalar.minsi v18 c511_i32
  let v38 : BitVec 32 := Scalar.subi v19 v37
  let c0_i32_21 : BitVec 32 := 0#32
  let v40 : BitVec 1 := Scalar.cmpi .sgt v38 c0_i32_21
  let v41 : BitVec 32 := Scalar.extui v40
  let c0_i32_22 : BitVec 32 := 0#32
  let v42 : BitVec 1 := Scalar.cmpi .slt v38 c0_i32_22
  let v43 : BitVec 32 := Scalar.extui v42
  let v44 : BitVec 32 := Scalar.subi v41 v43
  let c64_i32 : BitVec 32 := 64#32
  let c0_i32_23 : BitVec 32 := 0#32
  let v45 : BitVec 1 := Scalar.cmpi .sgt c64_i32 c0_i32_23
  let v46 : BitVec 32 := Scalar.extui v45
  let c0_i32_24 : BitVec 32 := 0#32
  let v47 : BitVec 1 := Scalar.cmpi .slt c64_i32 c0_i32_24
  let v48 : BitVec 32 := Scalar.extui v47
  let v49 : BitVec 32 := Scalar.subi v46 v48
  let v50 : BitVec 1 := Scalar.cmpi .ne v44 v49
  let v51 : BitVec 32 := Scalar.remsi v38 c64_i32
  let c0_i32_25 : BitVec 32 := 0#32
  let v52 : BitVec 1 := Scalar.cmpi .ne v51 c0_i32_25
  let v53 : BitVec 1 := Scalar.andi v50 v52
  let v39 : BitVec 32 := Scalar.divsi v38 c64_i32
  let c1_i32_26 : BitVec 32 := 1#32
  let v54 : BitVec 32 := Scalar.subi v39 c1_i32_26
  let v55 : BitVec 32 := Scalar.select v53 v54 v39
  let c1_i32_27 : BitVec 32 := 1#32
  let v56 : BitVec 32 := Scalar.addi v55 c1_i32_27
  let v57 : BitVec 32 := Scalar.subi v56 c0_i32_29
  let c1_i32_30 : BitVec 32 := 1#32
  let v59 : BitVec 32 := Scalar.divsi v57 c1_i32_30
  let v60 : BitVec 32 := Scalar.muli v59 c1_i32_30
  let v61 : BitVec 32 := Scalar.addi c0_i32_29 v60
  let c1_i32_32 : BitVec 32 := 1#32
  let arg13 : BitVec 32 := Scf.iv v61 c1_i32_32 k0_t2
  let c64_i32_40 : BitVec 32 := 64#32
  let v72 : BitVec 32 := Scalar.muli arg13 c64_i32_40
  let v73 : BitVec 32 := Scalar.addi v37 v72
  let v89 : Index := Scalar.indexCast v73
  let c0_44 : Index := 0#32
  ![v89.toNat, 0]
@[reducible] def k0_t3_loop (v17 : BitVec 32) (v18 : BitVec 32) : Scf.Loop 32 :=
  let c0_i32_35 : BitVec 32 := 0#32
  let c511_i32 : BitVec 32 := 511#32
  let v19 : BitVec 32 := Scalar.minsi v18 c511_i32
  let v62 : BitVec 32 := Scalar.subi v19 v17
  let c1_i32_33 : BitVec 32 := 1#32
  let v63 : BitVec 32 := Scalar.addi v62 c1_i32_33
  let v64 : BitVec 32 := Scalar.subi v63 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_37 : BitVec 32 := 1#32
  ⟨c0_i32_35, v68, c1_i32_37⟩
def k0_off5 (v17 : BitVec 32) (v18 : BitVec 32) (k0_t3 : Fin (k0_t3_loop v17 v18).trips) : Fin 2 → Nat :=
  let c0_i32_35 : BitVec 32 := 0#32
  let c1_i32_37 : BitVec 32 := 1#32
  let arg13 : BitVec 32 := Scf.iv c0_i32_35 c1_i32_37 k0_t3
  let v72 : BitVec 32 := Scalar.addi v17 arg13
  let v81 : Index := Scalar.indexCast v72
  let c0_42 : Index := 0#32
  ![v81.toNat, 0]
@[reducible] def k0_t4_loop (v17 : BitVec 32) (v18 : BitVec 32) : Scf.Loop 32 :=
  let c0_i32_35 : BitVec 32 := 0#32
  let c511_i32 : BitVec 32 := 511#32
  let v19 : BitVec 32 := Scalar.minsi v18 c511_i32
  let v62 : BitVec 32 := Scalar.subi v19 v17
  let c1_i32_33 : BitVec 32 := 1#32
  let v63 : BitVec 32 := Scalar.addi v62 c1_i32_33
  let v64 : BitVec 32 := Scalar.subi v63 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let v65 : BitVec 32 := Scalar.addi c0_i32_35 v64
  let c1_i32_38 : BitVec 32 := 1#32
  ⟨v68, v65, c1_i32_38⟩
def k0_off6 (v17 : BitVec 32) (v18 : BitVec 32) (k0_t4 : Fin (k0_t4_loop v17 v18).trips) : Fin 2 → Nat :=
  let c0_i32_35 : BitVec 32 := 0#32
  let c511_i32 : BitVec 32 := 511#32
  let v19 : BitVec 32 := Scalar.minsi v18 c511_i32
  let v62 : BitVec 32 := Scalar.subi v19 v17
  let c1_i32_33 : BitVec 32 := 1#32
  let v63 : BitVec 32 := Scalar.addi v62 c1_i32_33
  let v64 : BitVec 32 := Scalar.subi v63 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg13 : BitVec 32 := Scf.iv v68 c1_i32_38 k0_t4
  let v72 : BitVec 32 := Scalar.addi v17 arg13
  let v81 : Index := Scalar.indexCast v72
  let c0_42 : Index := 0#32
  ![v81.toNat, 0]

def k0_chk1 (v17 : BitVec 32) (v18 : BitVec 32) : Prop :=
  ((k0_t1_loop v17 v18).OK) ∧
  (∀ k0_t1 : Fin (k0_t1_loop v17 v18).trips, ∀ a, (k0_off1 v17 v18 k0_t1) a + S64x384.size a ≤ S640x384.size a) ∧
  (∀ k0_t1 : Fin (k0_t1_loop v17 v18).trips, ∀ a, (k0_off2 v17 v18 k0_t1) a + S64x1.size a ≤ S640x1.size a) ∧
  ((k0_t2_loop v17 v18).OK) ∧
  (∀ k0_t2 : Fin (k0_t2_loop v17 v18).trips, ∀ a, (k0_off3 v17 v18 k0_t2) a + S64x384.size a ≤ S640x384.size a) ∧
  (∀ k0_t2 : Fin (k0_t2_loop v17 v18).trips, ∀ a, (k0_off4 v17 v18 k0_t2) a + S64x1.size a ≤ S640x1.size a) ∧
  ((k0_t3_loop v17 v18).OK) ∧
  (∀ k0_t3 : Fin (k0_t3_loop v17 v18).trips, ∀ a, (k0_off5 v17 v18 k0_t3) a + S1x128.size a ≤ S512x128.size a) ∧
  ((k0_t4_loop v17 v18).OK) ∧
  (∀ k0_t4 : Fin (k0_t4_loop v17 v18).trips, ∀ a, (k0_off6 v17 v18 k0_t4) a + S1x128.size a ≤ S512x128.size a)
theorem k0_t1_ok : ∀ (v17 : BitVec 32) (v18 : BitVec 32) (k0_hw1 : k0_chk1 v17 v18), (k0_t1_loop v17 v18).OK := fun v17 v18 k0_hw1 => k0_hw1.1
theorem k0_off1_inb : ∀ (v17 : BitVec 32) (v18 : BitVec 32) (k0_hw1 : k0_chk1 v17 v18) (k0_t1 : Fin (k0_t1_loop v17 v18).trips), ∀ a, (k0_off1 v17 v18 k0_t1) a + S64x384.size a ≤ S640x384.size a := fun v17 v18 k0_hw1 k0_t1 => k0_hw1.2.1 k0_t1
theorem k0_off2_inb : ∀ (v17 : BitVec 32) (v18 : BitVec 32) (k0_hw1 : k0_chk1 v17 v18) (k0_t1 : Fin (k0_t1_loop v17 v18).trips), ∀ a, (k0_off2 v17 v18 k0_t1) a + S64x1.size a ≤ S640x1.size a := fun v17 v18 k0_hw1 k0_t1 => k0_hw1.2.2.1 k0_t1
theorem k0_t2_ok : ∀ (v17 : BitVec 32) (v18 : BitVec 32) (k0_hw1 : k0_chk1 v17 v18), (k0_t2_loop v17 v18).OK := fun v17 v18 k0_hw1 => k0_hw1.2.2.2.1
theorem k0_off3_inb : ∀ (v17 : BitVec 32) (v18 : BitVec 32) (k0_hw1 : k0_chk1 v17 v18) (k0_t2 : Fin (k0_t2_loop v17 v18).trips), ∀ a, (k0_off3 v17 v18 k0_t2) a + S64x384.size a ≤ S640x384.size a := fun v17 v18 k0_hw1 k0_t2 => k0_hw1.2.2.2.2.1 k0_t2
theorem k0_off4_inb : ∀ (v17 : BitVec 32) (v18 : BitVec 32) (k0_hw1 : k0_chk1 v17 v18) (k0_t2 : Fin (k0_t2_loop v17 v18).trips), ∀ a, (k0_off4 v17 v18 k0_t2) a + S64x1.size a ≤ S640x1.size a := fun v17 v18 k0_hw1 k0_t2 => k0_hw1.2.2.2.2.2.1 k0_t2
theorem k0_t3_ok : ∀ (v17 : BitVec 32) (v18 : BitVec 32) (k0_hw1 : k0_chk1 v17 v18), (k0_t3_loop v17 v18).OK := fun v17 v18 k0_hw1 => k0_hw1.2.2.2.2.2.2.1
theorem k0_off5_inb : ∀ (v17 : BitVec 32) (v18 : BitVec 32) (k0_hw1 : k0_chk1 v17 v18) (k0_t3 : Fin (k0_t3_loop v17 v18).trips), ∀ a, (k0_off5 v17 v18 k0_t3) a + S1x128.size a ≤ S512x128.size a := fun v17 v18 k0_hw1 k0_t3 => k0_hw1.2.2.2.2.2.2.2.1 k0_t3
theorem k0_t4_ok : ∀ (v17 : BitVec 32) (v18 : BitVec 32) (k0_hw1 : k0_chk1 v17 v18), (k0_t4_loop v17 v18).OK := fun v17 v18 k0_hw1 => k0_hw1.2.2.2.2.2.2.2.2.1
theorem k0_off6_inb : ∀ (v17 : BitVec 32) (v18 : BitVec 32) (k0_hw1 : k0_chk1 v17 v18) (k0_t4 : Fin (k0_t4_loop v17 v18).trips), ∀ a, (k0_off6 v17 v18 k0_t4) a + S1x128.size a ≤ S512x128.size a := fun v17 v18 k0_hw1 k0_t4 => k0_hw1.2.2.2.2.2.2.2.2.2 k0_t4

def k0_cond2 (i : grid0.Coords) : BitVec 1 :=
  let arg0 : BitVec 32 := BitVec.ofNat 32 (i 0).val
  let c195_i32 : BitVec 32 := 195#32
  let v69 : BitVec 1 := Scalar.cmpi .eq arg0 c195_i32
  let v70 : BitVec 32 := Scalar.extui v69
  let c0_i32_39 : BitVec 32 := 0#32
  let v71 : BitVec 1 := Scalar.cmpi .ne v70 c0_i32_39
  v71

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S100000x256 : Shape := ⟨2, ![100000, 256]⟩
abbrev S100000 : Shape := ⟨1, ![100000]⟩
abbrev S256x512 : Shape := ⟨2, ![256, 512]⟩
abbrev S512x256 : Shape := ⟨2, ![512, 256]⟩
abbrev S256 : Shape := ⟨1, ![256]⟩
abbrev S100000x512 : Shape := ⟨2, ![100000, 512]⟩
abbrev S100000x128 : Shape := ⟨2, ![100000, 128]⟩
abbrev S_ : Shape := ⟨0, ![]⟩
abbrev S512x128 : Shape := ⟨2, ![512, 128]⟩
abbrev S100000x1 : Shape := ⟨2, ![100000, 1]⟩
abbrev S512x1 : Shape := ⟨2, ![512, 1]⟩
abbrev S1x100000x1 : Shape := ⟨3, ![1, 100000, 1]⟩
abbrev S512 : Shape := ⟨1, ![512]⟩
abbrev S512x1x1 : Shape := ⟨3, ![512, 1, 1]⟩
abbrev S512x100000x1 : Shape := ⟨3, ![512, 100000, 1]⟩
abbrev S1x100000x128 : Shape := ⟨3, ![1, 100000, 128]⟩
abbrev S512x100000x128 : Shape := ⟨3, ![512, 100000, 128]⟩
abbrev S512x512 : Shape := ⟨2, ![512, 512]⟩
abbrev S1x256 : Shape := ⟨2, ![1, 256]⟩

abbrev nBuf : Space → Nat
  | .hbm => 90
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x512, .f32⟩
  | .hbm, ⟨3, _⟩ => ⟨S512x256, .f32⟩
  | .hbm, ⟨4, _⟩ => ⟨S256, .f32⟩
  | .hbm, ⟨5, _⟩ => ⟨S100000x512, .f32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S512x128, .f32⟩
  | .hbm, ⟨12, _⟩ => ⟨S100000x1, .i32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S100000x1, .i32⟩
  | .hbm, ⟨17, _⟩ => ⟨S512x128, .f32⟩
  | .hbm, ⟨18, _⟩ => ⟨S_, .f32⟩
  | .hbm, ⟨19, _⟩ => ⟨S100000x1, .f32⟩
  | .hbm, ⟨20, _⟩ => ⟨S_, .f32⟩
  | .hbm, ⟨21, _⟩ => ⟨S512x1, .f32⟩
  | .hbm, ⟨22, _⟩ => ⟨S100000x1, .i32⟩
  | .hbm, ⟨23, _⟩ => ⟨S512x1, .f32⟩
  | .hbm, ⟨24, _⟩ => ⟨S_, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x128, .f32⟩
  | .hbm, ⟨29, _⟩ => ⟨S512x128, .f32⟩
  | .hbm, ⟨30, _⟩ => ⟨S1x100000x1, .i32⟩
  | .hbm, ⟨31, _⟩ => ⟨S512, .i32⟩
  | .hbm, ⟨32, _⟩ => ⟨S512x1x1, .i32⟩
  | .hbm, ⟨33, _⟩ => ⟨S512x100000x1, .i32⟩
  | .hbm, ⟨34, _⟩ => ⟨S512x100000x1, .i32⟩
  | .hbm, ⟨35, _⟩ => ⟨S512x100000x1, .i1⟩
  | .hbm, ⟨36, _⟩ => ⟨S1x100000x128, .f32⟩
  | .hbm, ⟨37, _⟩ => ⟨S_, .f32⟩
  | .hbm, ⟨38, _⟩ => ⟨S_, .f32⟩
  | .hbm, ⟨39, _⟩ => ⟨S512x100000x128, .i1⟩
  | .hbm, ⟨40, _⟩ => ⟨S512x100000x128, .f32⟩
  | .hbm, ⟨41, _⟩ => ⟨S512x100000x128, .f32⟩
  | .hbm, ⟨42, _⟩ => ⟨S512x100000x128, .f32⟩
  | .hbm, ⟨43, _⟩ => ⟨S_, .f32⟩
  | .hbm, ⟨44, _⟩ => ⟨S512x128, .f32⟩
  | .hbm, ⟨45, _⟩ => ⟨S512x128, .f32⟩
  | .hbm, ⟨46, _⟩ => ⟨S_, .f32⟩
  | .hbm, ⟨47, _⟩ => ⟨S512x128, .f32⟩
  | .hbm, ⟨48, _⟩ => ⟨S512x128, .i1⟩
  | .hbm, ⟨49, _⟩ => ⟨S_, .f32⟩
  | .hbm, ⟨50, _⟩ => ⟨S_, .f32⟩
  | .hbm, ⟨51, _⟩ => ⟨S512x128, .f32⟩
  | .hbm, ⟨52, _⟩ => ⟨S512x128, .f32⟩
  | .hbm, ⟨53, _⟩ => ⟨S_, .f32⟩
  | .hbm, ⟨54, _⟩ => ⟨S100000x1, .f32⟩
  | .hbm, ⟨55, _⟩ => ⟨S_, .f32⟩
  | .hbm, ⟨56, _⟩ => ⟨S512x1, .f32⟩
  | .hbm, ⟨57, _⟩ => ⟨S100000x1, .i32⟩
  | .hbm, ⟨58, _⟩ => ⟨S512x1, .f32⟩
  | .hbm, ⟨59, _⟩ => ⟨S_, .f32⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S_, .f32⟩
  | .hbm, ⟨64, _⟩ => ⟨S512x128, .f32⟩
  | .hbm, ⟨65, _⟩ => ⟨S100000x1, .i32⟩
  | .hbm, ⟨66, _⟩ => ⟨S512x128, .f32⟩
  | .hbm, ⟨67, _⟩ => ⟨S512x128, .f32⟩
  | .hbm, ⟨68, _⟩ => ⟨S512x128, .f32⟩
  | .hbm, ⟨69, _⟩ => ⟨S100000x128, .f32⟩
  | .hbm, ⟨70, _⟩ => ⟨S_, .f32⟩
  | .hbm, ⟨71, _⟩ => ⟨S512x128, .f32⟩
  | .hbm, ⟨72, _⟩ => ⟨S100000x1, .i32⟩
  | .hbm, ⟨73, _⟩ => ⟨S512x128, .f32⟩
  | .hbm, ⟨74, _⟩ => ⟨S512x128, .f32⟩
  | .hbm, ⟨75, _⟩ => ⟨S512x128, .f32⟩
  | .hbm, ⟨76, _⟩ => ⟨S512x128, .f32⟩
  | .hbm, ⟨77, _⟩ => ⟨S512x128, .f32⟩
  | .hbm, ⟨78, _⟩ => ⟨S_, .f32⟩
  | .hbm, ⟨79, _⟩ => ⟨S512x128, .f32⟩
  | .hbm, ⟨80, _⟩ => ⟨S512x128, .f32⟩
  | .hbm, ⟨81, _⟩ => ⟨S_, .f32⟩
  | .hbm, ⟨82, _⟩ => ⟨S512x128, .f32⟩
  | .hbm, ⟨83, _⟩ => ⟨S512x128, .f32⟩
  | .hbm, ⟨84, _⟩ => ⟨S512x128, .f32⟩
  | .hbm, ⟨85, _⟩ => ⟨S512x512, .f32⟩
  | .hbm, ⟨86, _⟩ => ⟨S512x256, .f32⟩
  | .hbm, ⟨87, _⟩ => ⟨S1x256, .f32⟩
  | .hbm, ⟨88, _⟩ => ⟨S512x256, .f32⟩
  | .hbm, ⟨89, _⟩ => ⟨S512x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_v35 : Ref sig .tc := ⟨.hbm, 62, rfl⟩
abbrev main_cst_11 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call4_cst : Ref sig .tc := ⟨.hbm, 78, rfl⟩
abbrev main_call4_v0 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Proof.Own.Pre.lean ====
/- What the preconditions say, entry by entry. -/
module

public import proofs.«01_k».proof.Defs
public import proofs.«01_k».proof.Proof.Gen.Pre_in_range
public import proofs.«01_k».proof.Proof.Gen.Pre_sorted_finite
public import Idealize.ShloMosaic.Lib.Pointwise
public import Idealize.ShloMosaic.Lib.KernelVsHost

@[expose] public section

namespace Cert.Own

open Idealize.ShloMosaic

/-- A conjunction of two bits of truth values is the bit of their conjunction. -/
theorem andi_ofBool (p q : Bool) : IntOp.andi (BitVec.ofBool p) (BitVec.ofBool q) = BitVec.ofBool (p && q) := by
  cases p <;> cases q <;> decide

/-- The bit of a truth value is one when it holds. -/
theorem ofBool_eq_one (p : Bool) : (BitVec.ofBool p = 1#1) ↔ p = true := by cases p <;> decide

/-- A word that is at least 0 and below 512 as a signed number is below 512 as an unsigned one. -/
theorem lt_of_signed (w : BitVec 32) (h : ((0#32).sle w && w.slt 512#32) = true) : w.toNat < 512 := by
  rw [Bool.and_eq_true] at h
  obtain ⟨hge, hlt⟩ := h
  simp only [BitVec.sle, BitVec.slt, decide_eq_true_eq, BitVec.toInt, BitVec.toNat_ofNat] at hge hlt
  omega

/-- The first precondition: every segment word is below 512. -/
theorem range_of_pre {F : FTy → Type} [FloatOps F] [Pre_in_range.Facts] (x0 x1 x2 x3 x4)
    (h : Pre_in_range.fn (F := F) x0 x1 x2 x3 x4 = fun _ => 1#1) (n : Fin 100000) : (x1 (ix1 n)).toNat < 512 := by
  have e := congrFun h (ix1 n)
  simp only [Pre_in_range.fn, andi, cmpi, broadcastInDim, constantI, IntOp.cmpi, andi_ofBool, ofBool_eq_one] at e
  exact lt_of_signed _ e

/-- The second precondition's first part: every segment word is below 512. -/
theorem range_of_pre' {F : FTy → Type} [FloatOps F] [Pre_sorted_finite.Facts] (x0 x1 x2 x3 x4)
    (h : (Pre_sorted_finite.fn (F := F) x0 x1 x2 x3 x4).1 = fun _ => 1#1) (n : Fin 100000) : (x1 (ix1 n)).toNat < 512 := by
  have e := congrFun h (ix1 n)
  simp only [Pre_sorted_finite.fn, andi, cmpi, broadcastInDim, constantI, IntOp.cmpi, andi_ofBool, ofBool_eq_one] at e
  exact lt_of_signed _ e

/-- Its second part: the words do not decrease. -/
theorem step_of_pre {F : FTy → Type} [FloatOps F] [Pre_sorted_finite.Facts] (x0 x1 x2 x3 x4)
    (hr : ∀ n : Fin 100000, (x1 (ix1 n)).toNat < 512)
    (h : (Pre_sorted_finite.fn (F := F) x0 x1 x2 x3 x4).2.1 = fun _ => 1#1) (n : ℕ) (hn : n + 1 < 100000) :
    (x1 (ix1 ⟨n, by omega⟩)).toNat ≤ (x1 (ix1 ⟨n + 1, hn⟩)).toNat := by
  have e := congrFun h (ix1 ⟨n, by omega⟩)
  simp only [Pre_sorted_finite.fn, cmpi, IntOp.cmpi, ofBool_eq_one, extractStridedSlice] at e
  have e1 := hr ⟨n, by omega⟩
  have e2 := hr ⟨n + 1, hn⟩
  rw [BitVec.sle, decide_eq_true_eq] at e
  have a1 : ∀ w : BitVec 32, w.toNat < 512 → w.toInt = w.toNat := fun w hw => BitVec.toInt_eq_toNat_of_lt (by omega)
  have i1 : ∀ k : Fin 100000, ∀ i : Pre_sorted_finite.S100000.Idx, (i 0).val = k.val → x1 i = x1 (ix1 k) := fun k i hi =>
    congrArg x1 (funext fun a => Fin.ext (by match a with | ⟨0, _⟩ => exact hi))
  have e' : (x1 (ix1 ⟨n, by omega⟩)).toInt ≤ (x1 (ix1 ⟨n + 1, hn⟩)).toInt := by
    convert e using 2
    · exact (i1 _ _ (Nat.zero_add n)).symm
    · exact (i1 _ _ (Nat.add_comm 1 n)).symm
  rw [a1 _ e1, a1 _ e2] at e'
  exact_mod_cast e'

/-- So they are monotone. -/
theorem mono_of_pre {F : FTy → Type} [FloatOps F] [Pre_sorted_finite.Facts] (x0 x1 x2 x3 x4)
    (hr : ∀ n : Fin 100000, (x1 (ix1 n)).toNat < 512)
    (h : (Pre_sorted_finite.fn (F := F) x0 x1 x2 x3 x4).2.1 = fun _ => 1#1) (a b : Fin 100000) (hab : a.val ≤ b.val) :
    (x1 (ix1 a)).toNat ≤ (x1 (ix1 b)).toNat := by
  obtain ⟨a, ha⟩ := a
  obtain ⟨b, hb⟩ := b
  simp only at hab
  induction b, hab using Nat.le_induction with
  | base => exact le_refl _
  | succ k hk ih => exact (ih (by omega)).trans (step_of_pre x0 x1 x2 x3 x4 hr h k hb)

/-- A value whose absolute value is below infinity is a real number. -/
theorem real_of_abs {v : EReal} (h : (FloatOps.cmpf (F := Ideal) (φ := .f32) .olt (FloatOps.hostAbsf v) (FloatOps.ofBits .f32 0x7F800000#32)) = 1#1) :
    v ≠ ⊤ ∧ v ≠ ⊥ := by
  rw [← Ideal.xori_weird_eq_hostAbsf_olt_inf] at h
  change IntOp.xori (BitVec.ofBool (decide ((v : EReal) = ⊤ ∨ (v : EReal) = ⊥))) 1#1 = 1#1 at h
  by_contra hn
  rw [decide_eq_true (by tauto)] at h
  exact absurd h (by decide)

/-- Its third part: every input entry is finite. -/
theorem fin_of_pre [Pre_sorted_finite.Facts] (x0 x1 x2 x3 x4)
    (h : (Pre_sorted_finite.fn (F := Ideal) x0 x1 x2 x3 x4).2.2.1 = fun _ => 1#1) (i) : x0 i ≠ ⊤ ∧ x0 i ≠ ⊥ :=
  real_of_abs (congrFun h i)

/-- Its fourth part: every aggregation weight is finite. -/
theorem wfin_of_pre [Pre_sorted_finite.Facts] (x0 x1 x2 x3 x4)
    (h : (Pre_sorted_finite.fn (F := Ideal) x0 x1 x2 x3 x4).2.2.2 = fun _ => 1#1) (i) : x2 i ≠ ⊤ ∧ x2 i ≠ ⊥ :=
  real_of_abs (congrFun h i)

end Cert.Own
-- ==== Proof.Own.Words.lean ====
/- The words a block's two loops run over: the first and the last segment of the block, the first row of the
   64-row windows, and how many trips each loop makes. -/
module

public import proofs.«01_k».proof.Proof.Gen.Kernel.Skeleton
public import proofs.«01_k».proof.Proof.Gen.KernelIdeal.Skeleton
public import Idealize.ShloMosaic.Lib.Pointwise

@[expose] public section

namespace Cert.Own

open Idealize.ShloMosaic

/-- The segment word of a row: the argument's below 100000, and 512 past it. -/
def word (b : (⟨1, ![100000]⟩ : Shape).Idx → BitVec 32) (n : ℕ) : BitVec 32 :=
  if h : n < 100000 then b (ix1 ⟨n, h⟩) else 512#32

/-- The word of a row below the last. -/
theorem word_of_lt (b : (⟨1, ![100000]⟩ : Shape).Idx → BitVec 32) {n : ℕ} (h : n < 100000) : word b n = b (ix1 ⟨n, h⟩) :=
  dif_pos h

/-- The word past the last row. -/
theorem word_of_ge (b : (⟨1, ![100000]⟩ : Shape).Idx → BitVec 32) {n : ℕ} (h : ¬n < 100000) : word b n = 512#32 :=
  dif_neg h

/-- Every row's word is at most 512 when the argument's are below 512. -/
theorem word_le (b : (⟨1, ![100000]⟩ : Shape).Idx → BitVec 32) (h : ∀ n : Fin 100000, (b (ix1 n)).toNat < 512) (n : ℕ) :
    (word b n).toNat ≤ 512 := by
  unfold word; split
  · exact (h _).le
  · rfl

/-- The entry of a row: the argument's below 100000, and zero past it. -/
noncomputable def rowOf (x : (⟨2, ![100000, 256]⟩ : Shape).Idx → EReal) (n : ℕ) (l : Fin 256) : EReal :=
  if h : n < 100000 then x (ix2 ⟨n, h⟩ l) else 0

/-- The sign of a word, as a difference of two comparisons with zero. -/
def sgn (x : BitVec 32) : BitVec 32 :=
  Scalar.subi (Scalar.extui (Scalar.cmpi .sgt x 0#32)) (Scalar.extui (Scalar.cmpi .slt x 0#32))

/-- The quotient rounded down: the truncated one, less one where the signs differ and the division is not exact. -/
def fdiv (x k : BitVec 32) : BitVec 32 :=
  Scalar.select (Scalar.andi (Scalar.cmpi .ne (sgn x) (sgn k)) (Scalar.cmpi .ne (Scalar.remsi x k) 0#32))
    (Scalar.subi (Scalar.divsi x k) 1#32) (Scalar.divsi x k)

/-- A word below 512 divided by eight. -/
theorem fdiv8_tab : ∀ n : Fin 512, fdiv (BitVec.ofNat 32 n.val) 8#32 = BitVec.ofNat 32 (n.val / 8) := by decide +kernel

/-- A word between −512 and 511 divided by 64, plus one. -/
theorem fdiv64_tab : ∀ n : Fin 1024,
    (Scalar.addi (fdiv (BitVec.ofInt 32 ((n.val : Int) - 512)) 64#32) 1#32).toInt = ((n.val : Int) - 512) / 64 + 1 := by
  decide +kernel

/-- Division by one, a product by one and a difference with zero change no word. -/
theorem whole_steps (x : BitVec 32) :
    Scalar.addi 0#32 (Scalar.muli (Scalar.divsi (Scalar.subi x 0#32) 1#32) 1#32) = x := by
  have h : ¬ IntOp.SDivCorner x 1#32 := by
    unfold IntOp.SDivCorner; simp
  simp [Scalar.addi, Scalar.muli, Scalar.divsi, Scalar.subi, IntOp.addi, IntOp.muli, IntOp.divsi, IntOp.subi, h]

/-- The last segment of a block, cut to the last one there is. -/
def hiOf (w : BitVec 32) : ℕ := min w.toNat 511

/-- The first row of a block's first window. -/
def baseOf (w : BitVec 32) : ℕ := 8 * (w.toNat / 8)

/-- A small word read signed. -/
theorem toInt_small (n : ℕ) (h : n < 1000) : (BitVec.ofNat 32 n).toInt = n := by
  have e : (BitVec.ofNat 32 n).toNat = n := by rw [BitVec.toNat_ofNat]; omega
  rw [BitVec.toInt_eq_toNat_of_lt (by omega), e]

/-- The last segment of a block, as a word. -/
theorem minsi_511 (w : BitVec 32) (h : w.toNat ≤ 512) : Scalar.minsi w 511#32 = BitVec.ofNat 32 (hiOf w) := by
  unfold Scalar.minsi IntOp.minsi hiOf
  have e : w.toInt = w.toNat := BitVec.toInt_eq_toNat_of_lt (by omega)
  have e5 : (511#32 : BitVec 32).toInt = 511 := rfl
  by_cases hlt : w.toNat < 511
  · rw [if_pos (by simp only [BitVec.slt, e, e5]; rw [decide_eq_true_eq]; omega)]
    rw [Nat.min_eq_left (by omega)]; simp
  · rw [if_neg (by simp only [BitVec.slt, e, e5]; rw [decide_eq_true_eq]; omega)]
    rw [Nat.min_eq_right (by omega)]

/-- The first row of a block's first window, as a word. -/
theorem base_word (w : BitVec 32) (h : w.toNat < 512) :
    Scalar.muli (fdiv w 8#32) 8#32 = BitVec.ofNat 32 (baseOf w) := by
  have e := fdiv8_tab ⟨w.toNat, h⟩
  have ew : BitVec.ofNat 32 w.toNat = w := by simp
  simp only [ew] at e
  rw [e]
  apply BitVec.eq_of_toNat_eq
  simp only [Scalar.muli, IntOp.muli, baseOf, BitVec.toNat_mul, BitVec.toNat_ofNat]
  omega

/-- How many windows of 64 rows a block's segments take. -/
def nwin (a b : BitVec 32) : ℕ := (((hiOf b : Int) - baseOf a) / 64 + 1).toNat

/-- The number of a block's windows, as a word. -/
theorem nwin_word (a b : BitVec 32) (ha : a.toNat < 512) (hb : b.toNat ≤ 512) :
    (Scalar.addi (fdiv (Scalar.subi (Scalar.minsi b 511#32) (Scalar.muli (fdiv a 8#32) 8#32)) 64#32) 1#32).toInt
      = ((hiOf b : Int) - baseOf a) / 64 + 1 := by
  rw [minsi_511 b hb, base_word a ha]
  have h1 : hiOf b ≤ 511 := by unfold hiOf; omega
  have h2 : baseOf a ≤ 504 := by unfold baseOf; omega
  have e := fdiv64_tab ⟨hiOf b + 512 - baseOf a, by omega⟩
  have ec : ((hiOf b + 512 - baseOf a : ℕ) : Int) - 512 = (hiOf b : Int) - baseOf a := by omega
  simp only [ec] at e
  rw [← e]
  congr 3
  apply BitVec.eq_of_toInt_eq
  simp only [Scalar.subi, IntOp.subi, BitVec.toInt_sub, toInt_small _ (by omega : hiOf b < 1000), toInt_small _ (by omega : baseOf a < 1000), BitVec.toInt_ofInt]

/-- A loop from zero by one to a bound that is an integer word: its trips. -/
theorem trips_of (ub : BitVec 32) (z : Int) (h : ub.toInt = z) : Scf.trips 0#32 ub 1#32 = z.toNat := by
  have e0 : (0#32 : BitVec 32).toInt = 0 := rfl
  have e1 : (1#32 : BitVec 32).toInt = 1 := rfl
  unfold Scf.trips
  rw [h, e0, e1]
  congr 1
  omega

/-- … and its steps stay words when the bound is small. -/
theorem ok_of (ub : BitVec 32) (z : Int) (h : ub.toInt = z) (hz : z < 1000) : Scf.OK 0#32 ub 1#32 := by
  have e0 : (0#32 : BitVec 32).toInt = 0 := rfl
  have e1 : (1#32 : BitVec 32).toInt = 1 := rfl
  unfold Scf.OK
  rw [trips_of ub z h, e0, e1]
  omega

/-- A loop from a word to itself makes no trip. -/
theorem trips_self (u : BitVec 32) : Scf.trips u u 1#32 = 0 := by
  have e1 : (1#32 : BitVec 32).toInt = 1 := rfl
  unfold Scf.trips
  rw [e1, Int.toNat_eq_zero]
  omega

/-- A loop from a word to itself is well formed. -/
theorem ok_self (u : BitVec 32) (h : u.toInt < 1000) : Scf.OK u u 1#32 := by
  have e1 : (1#32 : BitVec 32).toInt = 1 := rfl
  unfold Scf.OK
  rw [trips_self, e1]
  omega

/-- How many segments the second loop visits, as a word. -/
theorem nvisit_word (a b : BitVec 32) (ha : a.toNat < 512) (hb : b.toNat ≤ 512) :
    (Scalar.addi (Scalar.subi (Scalar.minsi b 511#32) a) 1#32).toInt = (hiOf b : Int) - a.toNat + 1 := by
  rw [minsi_511 b hb]
  have h1 : hiOf b ≤ 511 := by unfold hiOf; omega
  have ea : a.toInt = a.toNat := BitVec.toInt_eq_toNat_of_lt (by omega)
  simp only [Scalar.addi, IntOp.addi, Scalar.subi, IntOp.subi, BitVec.toInt_add, BitVec.toInt_sub, toInt_small _ (by omega : hiOf b < 1000), toInt_small 1 (by omega), ea]
  simp only [Int.bmod]
  split_ifs <;> omega

/-- The first row of a window, read from its word. -/
theorem win_off (a : BitVec 32) (ha : a.toNat < 512) (k : ℕ) (hk : k < 10) :
    (Scalar.indexCast (Scalar.addi (Scalar.muli (fdiv a 8#32) 8#32) (Scalar.muli (Scf.iv 0#32 1#32 k) 64#32))).toNat
      = baseOf a + 64 * k := by
  rw [base_word a ha]
  have h2 : baseOf a ≤ 504 := by unfold baseOf; omega
  simp only [Scalar.indexCast, Scalar.addi, Scalar.muli, IntOp.addi, IntOp.muli, Scf.iv, BitVec.toNat_add, BitVec.toNat_mul, BitVec.toNat_ofNat]
  omega

/-- The row of a visit, read from its word. -/
theorem visit_off (a : BitVec 32) (ha : a.toNat < 512) (k : ℕ) (hk : k < 600) :
    (Scalar.indexCast (Scalar.addi a (Scf.iv 0#32 1#32 k))).toNat = a.toNat + k := by
  simp only [Scalar.indexCast, Scalar.addi, IntOp.addi, Scf.iv, BitVec.toNat_add, BitVec.toNat_mul, BitVec.toNat_ofNat]
  omega

section Kernel
open Cert.KernelIdeal
variable (a b : BitVec 32) (ha : a.toNat < 512) (hb : b.toNat ≤ 512)

include ha hb in
/-- The loop over the windows. -/
theorem t1_trips : (k0_t1_loop a b).trips = nwin a b :=
  (congrArg (fun u => Scf.trips 0#32 u 1#32) (whole_steps _)).trans (trips_of _ _ (nwin_word a b ha hb))

/-- The rest of the loop over the windows makes no trip. -/
theorem t2_trips : (k0_t2_loop a b).trips = 0 := by
  refine Eq.trans ?_ (trips_self (k0_t2_loop a b).ub)
  show Scf.trips (k0_t2_loop a b).lb _ _ = _
  congr 1
  exact (whole_steps _).trans (by simp [Scalar.addi, Scalar.subi, IntOp.addi, IntOp.subi])

include ha hb in
/-- The loop over the visits. -/
theorem t3_trips : (k0_t3_loop a b).trips = ((hiOf b : Int) - a.toNat + 1).toNat :=
  (congrArg (fun u => Scf.trips 0#32 u 1#32) (whole_steps _)).trans (trips_of _ _ (nvisit_word a b ha hb))

/-- The rest of the loop over the visits makes no trip. -/
theorem t4_trips : (k0_t4_loop a b).trips = 0 := by
  refine Eq.trans ?_ (trips_self (k0_t4_loop a b).ub)
  show Scf.trips (k0_t4_loop a b).lb _ _ = _
  congr 1
  exact (whole_steps _).trans (by simp [Scalar.addi, Scalar.subi, IntOp.addi, IntOp.subi])

include ha hb in
/-- A window stays inside the running arrays. -/
theorem nwin_bound (k : ℕ) (hk : k < nwin a b) : baseOf a + 64 * k + 64 ≤ 640 ∧ k < 10 := by
  unfold nwin at hk
  have h1 : hiOf b ≤ 511 := by unfold hiOf; omega
  constructor <;> omega

include ha hb in
/-- Where a window reads and writes the sums. -/
theorem off1_eq (k : Fin (k0_t1_loop a b).trips) : k0_off1 a b k = ![baseOf a + 64 * k.val, 0] := by
  have hk := nwin_bound a b ha hb k.val (k.isLt.trans_eq (t1_trips a b ha hb))
  show ![(Scalar.indexCast (Scalar.addi (Scalar.muli (fdiv a 8#32) 8#32) (Scalar.muli (Scf.iv 0#32 1#32 k.val) 64#32))).toNat, 0] = _
  rw [win_off a ha _ hk.2]

include ha hb in
/-- Where a window reads and writes the counts. -/
theorem off2_eq (k : Fin (k0_t1_loop a b).trips) : k0_off2 a b k = ![baseOf a + 64 * k.val, 0] := by
  have hk := nwin_bound a b ha hb k.val (k.isLt.trans_eq (t1_trips a b ha hb))
  show ![(Scalar.indexCast (Scalar.addi (Scalar.muli (fdiv a 8#32) 8#32) (Scalar.muli (Scf.iv 0#32 1#32 k.val) 64#32))).toNat, 0] = _
  rw [win_off a ha _ hk.2]

include ha hb in
/-- Where a visit reads and writes the maxima. -/
theorem off5_eq (k : Fin (k0_t3_loop a b).trips) : k0_off5 a b k = ![a.toNat + k.val, 0] := by
  have hk : k.val < 600 := by
    have := k.isLt.trans_eq (t3_trips a b ha hb)
    have h1 : hiOf b ≤ 511 := by unfold hiOf; omega
    omega
  show ![(Scalar.indexCast (Scalar.addi a (Scf.iv 0#32 1#32 k.val))).toNat, 0] = _
  rw [visit_off a ha _ hk]

include ha hb in
/-- Where a block's first word is below 512 and its last at most 512, every window and every visited row lies inside
    its scratch, and every loop's counter stays a word. -/
theorem chk_ideal : Cert.KernelIdeal.k0_chk1 a b := by
  have h1 : hiOf b ≤ 511 := by unfold hiOf; omega
  have hw : ∀ k : Fin (k0_t1_loop a b).trips, baseOf a + 64 * k.val + 64 ≤ 640 := fun k =>
    (nwin_bound a b ha hb k.val (k.isLt.trans_eq (t1_trips a b ha hb))).1
  have hv : ∀ k : Fin (k0_t3_loop a b).trips, a.toNat + k.val + 1 ≤ 512 := fun k => by
    have := k.isLt.trans_eq (t3_trips a b ha hb); omega
  have ub1 : (k0_t1_loop a b).ub = _ := whole_steps _
  have ub3 : (k0_t3_loop a b).ub = _ := whole_steps _
  refine ⟨?_, ?_, ?_, ?_, ?_, ?_, ?_, ?_, ?_, ?_⟩
  · refine ok_of _ _ ((congrArg BitVec.toInt ub1).trans (nwin_word a b ha hb)) ?_
    omega
  · intro k; rw [off1_eq a b ha hb k]
    intro x; have := hw k
    fin_cases x <;> simp [S64x384, S640x384] <;> omega
  · intro k; rw [off2_eq a b ha hb k]
    intro x; have := hw k
    fin_cases x <;> simp [S64x1, S640x1] <;> omega
  · have e : (k0_t2_loop a b).lb = (k0_t2_loop a b).ub :=
      (whole_steps _).trans (by simp [Scalar.addi, Scalar.subi, IntOp.addi, IntOp.subi])
    show Scf.OK (k0_t2_loop a b).lb (k0_t2_loop a b).ub _
    rw [← e]
    refine ok_self _ ?_
    have := (congrArg BitVec.toInt ub1).trans (nwin_word a b ha hb)
    have e' : (k0_t2_loop a b).lb = (k0_t1_loop a b).ub := rfl
    rw [e', this]; omega
  · intro k; exact absurd (k.isLt.trans_eq (t2_trips a b)) (by omega)
  · intro k; exact absurd (k.isLt.trans_eq (t2_trips a b)) (by omega)
  · refine ok_of _ _ ((congrArg BitVec.toInt ub3).trans (nvisit_word a b ha hb)) ?_
    omega
  · intro k; rw [off5_eq a b ha hb k]
    intro x; have := hv k
    fin_cases x <;> simp [S1x128, S512x128] <;> omega
  · have e : (k0_t4_loop a b).lb = (k0_t4_loop a b).ub :=
      (whole_steps _).trans (by simp [Scalar.addi, Scalar.subi, IntOp.addi, IntOp.subi])
    show Scf.OK (k0_t4_loop a b).lb (k0_t4_loop a b).ub _
    rw [← e]
    refine ok_self _ ?_
    have := (congrArg BitVec.toInt ub3).trans (nvisit_word a b ha hb)
    have e' : (k0_t4_loop a b).lb = (k0_t3_loop a b).ub := rfl
    rw [e', this]; omega
  · intro k; exact absurd (k.isLt.trans_eq (t4_trips a b)) (by omega)

include ha hb in
/-- The same of the machine kernel: its words are computed by the same operations. -/
theorem chk_machine : Cert.Kernel.k0_chk1 a b := chk_ideal a b ha hb

end Kernel

end Cert.Own

end
-- ==== Proof.Own.WordsMachine.lean ====
/- What the blocks of the call hold, as entries of the arguments. -/
module

public import proofs.«01_k».proof.Proof.Gen.Kernel.Frame
public import proofs.«01_k».proof.Proof.Own.Words
public import Idealize.ShloMosaic.Lib.Pointwise
public import Idealize.ShloMosaic.Lib.KernelVsHost
public import Idealize.ShloMosaic.Lib.StableHlo.ReadAt

@[expose] public section

noncomputable section

namespace Cert.Kernel.Own

open Cert.Kernel Cert.Kernel.Gen Cert.Own
open Idealize.ShloMosaic Idealize.ShloMosaic.TcCoe

variable {F : FTy → Type} [FloatOps F]
variable (m : (ℓ : Loc nD τ sig) → Buf (Elt F) ℓ)

/-- The padded segment words at a position: the argument's word below 100000, and 512 past it. -/
theorem pad_word (x : S100000.Idx → BitVec 32) (v : S_.Idx → BitVec 32) (hv : ∀ i, v i = 512#32) (n : Fin 100352) :
    pad S100352 ![0] ![352] ![0] x v pads_S100000_S100352_03520 h_S_ (ix1 n) = word x n.val := by
  unfold word
  by_cases h : n.val < 100000
  · rw [dif_pos h]
    refine pad_apply_of_inside _ _ _ _ _ _ _ _ (ix1 ⟨n.val, h⟩) fun a => ?_
    match a with | ⟨0, _⟩ => simp
  · rw [dif_neg h]
    rw [pad_apply_of_not_inside _ _ _ _ _ _ _ _ 0 (by simp; omega)]
    exact hv _

/-- The scalar copy of the segment words: padded, then cut into blocks. -/
theorem V_v4 (c : Dev nD) : V m c main_v4 = shapeCast S196x1x512 (pad S100352 ![0] ![352] ![0] (m ((c : Thread nD τ).loc main_arg1)) (constantI S_ 32 512#32)
      pads_S100000_S100352_03520 h_S_) shapeCasts_S100352_S196x1x512 := by
  unfold V
  simp only [hostOps0, hostOps0_1, hostOps0_2, hostOps0_3, hostOps0_4, List.flatten_cons, List.flatten_nil, List.append_nil,
    List.cons_append, List.nil_append]
  after_results_simp
  all_goals rfl

/-- Where block 0 lies at a point. -/
theorem idx0 : ∀ t : Fin cfg0.N, win0_0.index t 0 = t.val ∧ win0_0.index t 1 = 0 ∧ win0_0.index t 2 = 0 := by
  decide +kernel

/-- Block 0 holds the segment words of its 512 rows. -/
theorem iblk0 (c : Dev nD) (t : Fin cfg0.N) (k : Fin 512) :
    iblk m c 0 t (ix3 0 0 k) = word (m ((c : Thread nD τ).loc main_arg1)) (512 * t.val + k.val) := by
  have hN : cfg0.N = 196 := N_0
  have ht := t.isLt
  unfold iblk
  rw [View.read_apply, cast_eq]
  show V m c main_v4 _ = _
  rw [V_v4]
  refine (shapeCast_apply _ _ _ (ix1 ⟨512 * t.val + k.val, by have := k.isLt; omega⟩) ?_).trans
    (pad_word _ _ (fun _ => rfl) _)
  rw [Shape.rowMajor_val_three, Shape.rowMajor_val_one]
  obtain ⟨e0, e1, e2⟩ := idx0 t
  show _ = ((win0_0.index t 0 * 1 + 1 * 0) * 1 + (win0_0.index t 1 * 1 + 1 * 0)) * 512 + (win0_0.index t 2 * 512 + 1 * k.val)
  rw [e0, e1, e2]
  simp; omega

/-- The words the body reads from its scalar block: the first and the last of the block's rows. -/
theorem readWord (c : Dev nD) (t : Fin cfg0.N) (k : Fin 512) (inb : ∀ a, (![0, 0, k.val] : Fin 3 → Nat) a + S1x1x1.size a ≤ S1x1x512.size a) :
    (ms0_0 t).view.readAt (Elt F) (Rect.unit (s := S1x1x512) ![0, 0, k.val] S1x1x1.size inb).toLoadRect
      ((hs0_0 t).unread (iblk m c 0 t)) (Shape.Idx.first (numel1_S1x1x1.symm ▸ Nat.one_pos))
      = word (m ((c : Thread nD τ).loc main_arg1)) (512 * t.val + k.val) := by
  simp only [View.readAt_apply, Memref.IsWhole.read_unread]
  rw [← iblk0]
  refine congrArg (iblk m c 0 t) (funext fun a => Fin.ext ?_)
  match a with
  | ⟨0, _⟩ => rfl
  | ⟨1, _⟩ => rfl
  | ⟨2, _⟩ => exact Nat.add_zero k.val

/-- Segment words in range give the side conditions the body assumes. -/
theorem hyps_of_range (h : ∀ c : Dev nD, ∀ n : Fin 100000, (m ((c : Thread nD τ).loc main_arg1) (ix1 n)).toNat < 512) : Hyps m := by
  intro c t
  have hN : cfg0.N = 196 := N_0
  have ht := t.isLt
  have e0 := readWord m c t 0 inb_S1x1x512_S1x1x1_0_0_0
  have e1 := readWord m c t 511 inb_S1x1x512_S1x1x1_0_0_511
  show k0_chk1 ((ms0_0 t).view.readAt (Elt F) (Rect.unit (s := S1x1x512) ![0, 0, (0 : Fin 512).val] S1x1x1.size _).toLoadRect
      ((hs0_0 t).unread (iblk m c 0 t)) (Shape.Idx.first (numel1_S1x1x1.symm ▸ Nat.one_pos)))
      ((ms0_0 t).view.readAt (Elt F) (Rect.unit (s := S1x1x512) ![0, 0, (511 : Fin 512).val] S1x1x1.size _).toLoadRect
      ((hs0_0 t).unread (iblk m c 0 t)) (Shape.Idx.first (numel1_S1x1x1.symm ▸ Nat.one_pos)))
  rw [e0, e1]
  refine chk_machine _ _ ?_ ?_
  · rw [word_of_lt _ (show 512 * t.val + (0 : Fin 512).val < 100000 by simp; omega)]; exact h c _
  · exact word_le _ (h c) _

end Cert.Kernel.Own

end
-- ==== Proof.Own.Blocks.lean ====
/- What the blocks of the call hold, as entries of the arguments. -/
module

public import proofs.«01_k».proof.Proof.Gen.KernelIdeal.Frame
public import proofs.«01_k».proof.Proof.Own.Words
public import Idealize.ShloMosaic.Lib.Pointwise
public import Idealize.ShloMosaic.Lib.KernelVsHost
public import Idealize.ShloMosaic.Lib.StableHlo.ReadAt

@[expose] public section

noncomputable section

namespace Cert.KernelIdeal.Own

open Cert.KernelIdeal Cert.KernelIdeal.Gen Cert.Own
open Idealize.ShloMosaic Idealize.ShloMosaic.TcCoe

variable {F : FTy → Type} [FloatOps F]
variable (m : (ℓ : Loc nD τ sig) → Buf (Elt F) ℓ)

/-- The padded segment words at a position: the argument's word below 100000, and 512 past it. -/
theorem pad_word (x : S100000.Idx → BitVec 32) (v : S_.Idx → BitVec 32) (hv : ∀ i, v i = 512#32) (n : Fin 100352) :
    pad S100352 ![0] ![352] ![0] x v pads_S100000_S100352_03520 h_S_ (ix1 n) = word x n.val := by
  unfold word
  by_cases h : n.val < 100000
  · rw [dif_pos h]
    refine pad_apply_of_inside _ _ _ _ _ _ _ _ (ix1 ⟨n.val, h⟩) fun a => ?_
    match a with | ⟨0, _⟩ => simp
  · rw [dif_neg h]
    rw [pad_apply_of_not_inside _ _ _ _ _ _ _ _ 0 (by simp; omega)]
    exact hv _

/-- The scalar copy of the segment words: padded, then cut into blocks. -/
theorem V_v4 (c : Dev nD) : V m c main_v4 = shapeCast S196x1x512 (pad S100352 ![0] ![352] ![0] (m ((c : Thread nD τ).loc main_arg1)) (constantI S_ 32 512#32)
      pads_S100000_S100352_03520 h_S_) shapeCasts_S100352_S196x1x512 := by
  unfold V
  simp only [hostOps0, hostOps0_1, hostOps0_2, hostOps0_3, hostOps0_4, List.flatten_cons, List.flatten_nil, List.append_nil,
    List.cons_append, List.nil_append]
  after_results_simp
  all_goals rfl

/-- Where block 0 lies at a point. -/
theorem idx0 : ∀ t : Fin cfg0.N, win0_0.index t 0 = t.val ∧ win0_0.index t 1 = 0 ∧ win0_0.index t 2 = 0 := by
  decide +kernel

/-- Block 0 holds the segment words of its 512 rows. -/
theorem iblk0 (c : Dev nD) (t : Fin cfg0.N) (k : Fin 512) :
    iblk m c 0 t (ix3 0 0 k) = word (m ((c : Thread nD τ).loc main_arg1)) (512 * t.val + k.val) := by
  have hN : cfg0.N = 196 := N_0
  have ht := t.isLt
  unfold iblk
  rw [View.read_apply, cast_eq]
  show V m c main_v4 _ = _
  rw [V_v4]
  refine (shapeCast_apply _ _ _ (ix1 ⟨512 * t.val + k.val, by have := k.isLt; omega⟩) ?_).trans
    (pad_word _ _ (fun _ => rfl) _)
  rw [Shape.rowMajor_val_three, Shape.rowMajor_val_one]
  obtain ⟨e0, e1, e2⟩ := idx0 t
  show _ = ((win0_0.index t 0 * 1 + 1 * 0) * 1 + (win0_0.index t 1 * 1 + 1 * 0)) * 512 + (win0_0.index t 2 * 512 + 1 * k.val)
  rw [e0, e1, e2]
  simp; omega

/-- The words the body reads from its scalar block: the first and the last of the block's rows. -/
theorem readWord (c : Dev nD) (t : Fin cfg0.N) (k : Fin 512) (inb : ∀ a, (![0, 0, k.val] : Fin 3 → Nat) a + S1x1x1.size a ≤ S1x1x512.size a) :
    (ms0_0 t).view.readAt (Elt F) (Rect.unit (s := S1x1x512) ![0, 0, k.val] S1x1x1.size inb).toLoadRect
      ((hs0_0 t).unread (iblk m c 0 t)) (Shape.Idx.first (numel1_S1x1x1.symm ▸ Nat.one_pos))
      = word (m ((c : Thread nD τ).loc main_arg1)) (512 * t.val + k.val) := by
  simp only [View.readAt_apply, Memref.IsWhole.read_unread]
  rw [← iblk0]
  refine congrArg (iblk m c 0 t) (funext fun a => Fin.ext ?_)
  match a with
  | ⟨0, _⟩ => rfl
  | ⟨1, _⟩ => rfl
  | ⟨2, _⟩ => exact Nat.add_zero k.val

/-- Segment words in range give the side conditions the body assumes. -/
theorem hyps_of_range (h : ∀ c : Dev nD, ∀ n : Fin 100000, (m ((c : Thread nD τ).loc main_arg1) (ix1 n)).toNat < 512) : Hyps m := by
  intro c t
  have hN : cfg0.N = 196 := N_0
  have ht := t.isLt
  have e0 := readWord m c t 0 inb_S1x1x512_S1x1x1_0_0_0
  have e1 := readWord m c t 511 inb_S1x1x512_S1x1x1_0_0_511
  show k0_chk1 ((ms0_0 t).view.readAt (Elt F) (Rect.unit (s := S1x1x512) ![0, 0, (0 : Fin 512).val] S1x1x1.size _).toLoadRect
      ((hs0_0 t).unread (iblk m c 0 t)) (Shape.Idx.first (numel1_S1x1x1.symm ▸ Nat.one_pos)))
      ((ms0_0 t).view.readAt (Elt F) (Rect.unit (s := S1x1x512) ![0, 0, (511 : Fin 512).val] S1x1x1.size _).toLoadRect
      ((hs0_0 t).unread (iblk m c 0 t)) (Shape.Idx.first (numel1_S1x1x1.symm ▸ Nat.one_pos)))
  rw [e0, e1]
  refine chk_ideal _ _ ?_ ?_
  · rw [word_of_lt _ (show 512 * t.val + (0 : Fin 512).val < 100000 by simp; omega)]; exact h c _
  · exact word_le _ (h c) _

/-- The row copy of the segment words. -/
theorem V_v2 (c : Dev nD) : V m c main_v2 = shapeCast S196x1x512 (pad S100352 ![0] ![352] ![0] (m ((c : Thread nD τ).loc main_arg1)) (constantI S_ 32 512#32)
      pads_S100000_S100352_03520 h_S_) shapeCasts_S100352_S196x1x512 := by
  unfold V
  simp only [hostOps0, hostOps0_1, hostOps0_2, hostOps0_3, hostOps0_4, List.flatten_cons, List.flatten_nil, List.append_nil,
    List.cons_append, List.nil_append]
  after_results_simp
  all_goals rfl

/-- Where block 2 lies at a point. -/
theorem idx2 : ∀ t : Fin cfg0.N, win0_2.index t 0 = t.val ∧ win0_2.index t 1 = 0 ∧ win0_2.index t 2 = 0 := by
  decide +kernel

/-- Block 2 holds the segment words of its 512 rows. -/
theorem iblk2 (c : Dev nD) (t : Fin cfg0.N) (k : Fin 512) :
    iblk m c 2 t (ix3 0 0 k) = word (m ((c : Thread nD τ).loc main_arg1)) (512 * t.val + k.val) := by
  have hN : cfg0.N = 196 := N_0
  have ht := t.isLt
  unfold iblk
  rw [View.read_apply, cast_eq]
  show V m c main_v2 _ = _
  rw [V_v2]
  refine (shapeCast_apply _ _ _ (ix1 ⟨512 * t.val + k.val, by have := k.isLt; omega⟩) ?_).trans
    (pad_word _ _ (fun _ => rfl) _)
  rw [Shape.rowMajor_val_three, Shape.rowMajor_val_one]
  obtain ⟨e0, e1, e2⟩ := idx2 t
  show _ = ((win0_2.index t 0 * 1 + 1 * 0) * 1 + (win0_2.index t 1 * 1 + 1 * 0)) * 512 + (win0_2.index t 2 * 512 + 1 * k.val)
  rw [e0, e1, e2]
  simp; omega

/-- The column copy of the segment words. -/
theorem V_v3 (c : Dev nD) : V m c main_v3 = shapeCast S196x512x1 (pad S100352 ![0] ![352] ![0] (m ((c : Thread nD τ).loc main_arg1)) (constantI S_ 32 512#32)
      pads_S100000_S100352_03520 h_S_) shapeCasts_S100352_S196x512x1 := by
  unfold V
  simp only [hostOps0, hostOps0_1, hostOps0_2, hostOps0_3, hostOps0_4, List.flatten_cons, List.flatten_nil, List.append_nil,
    List.cons_append, List.nil_append]
  after_results_simp
  all_goals rfl

/-- Where block 3 lies at a point. -/
theorem idx3 : ∀ t : Fin cfg0.N, win0_3.index t 0 = t.val ∧ win0_3.index t 1 = 0 ∧ win0_3.index t 2 = 0 := by
  decide +kernel

/-- Block 3 holds the segment words of its 512 rows. -/
theorem iblk3 (c : Dev nD) (t : Fin cfg0.N) (k : Fin 512) :
    iblk m c 3 t (ix3 0 k 0) = word (m ((c : Thread nD τ).loc main_arg1)) (512 * t.val + k.val) := by
  have hN : cfg0.N = 196 := N_0
  have ht := t.isLt
  unfold iblk
  rw [View.read_apply, cast_eq]
  show V m c main_v3 _ = _
  rw [V_v3]
  refine (shapeCast_apply _ _ _ (ix1 ⟨512 * t.val + k.val, by have := k.isLt; omega⟩) ?_).trans
    (pad_word _ _ (fun _ => rfl) _)
  rw [Shape.rowMajor_val_three, Shape.rowMajor_val_one]
  obtain ⟨e0, e1, e2⟩ := idx3 t
  show _ = ((win0_3.index t 0 * 1 + 1 * 0) * 512 + (win0_3.index t 1 * 512 + 1 * k.val)) * 1 + (win0_3.index t 2 * 1 + 1 * 0)
  rw [e0, e1, e2]
  simp; omega

/-- The padded rows. -/
theorem V_v0 (c : Dev nD) : V m c main_v0 = pad S100352x256 ![0, 0] ![352, 0] ![0, 0] (m ((c : Thread nD τ).loc main_arg0))
      (sitofp .f32 (constantI S_ 32 0#32)) pads_S100000x256_S100352x256_03520_000 h_S_ := by
  unfold V
  simp only [hostOps0, hostOps0_1, hostOps0_2, hostOps0_3, hostOps0_4, List.flatten_cons, List.flatten_nil, List.append_nil,
    List.cons_append, List.nil_append]
  after_results_simp
  all_goals rfl

/-- The second half of the aggregation columns. -/
theorem V_v5 (c : Dev nD) : V m c main_v5 = extractStridedSlice S256x256 ![0, 256] (m ((c : Thread nD τ).loc main_arg2)) slices_S256x512_S256x256_0_256 := by
  unfold V
  simp only [hostOps0, hostOps0_1, hostOps0_2, hostOps0_3, hostOps0_4, List.flatten_cons, List.flatten_nil, List.append_nil,
    List.cons_append, List.nil_append]
  after_results_simp
  all_goals rfl

/-- The aggregation columns used after the sums. -/
theorem V_v8 (c : Dev nD) : V m c main_v8 = concatenate S256x384 1
      [⟨S256x256, extractStridedSlice S256x256 ![0, 0] (m ((c : Thread nD τ).loc main_arg2)) slices_S256x512_S256x256_0_0⟩,
       ⟨S256x128, extractStridedSlice S256x128 ![0, 384] (m ((c : Thread nD τ).loc main_arg2)) slices_S256x512_S256x128_0_384⟩]
      concatenates_S256x256_S256x128_S256x384_d1 := by
  unfold V
  simp only [hostOps0, hostOps0_1, hostOps0_2, hostOps0_3, hostOps0_4, List.flatten_cons, List.flatten_nil, List.append_nil,
    List.cons_append, List.nil_append]
  after_results_simp
  all_goals rfl

/-- The bias as one row. -/
theorem V_v9 (c : Dev nD) : V m c main_v9 = shapeCast S1x256 (m ((c : Thread nD τ).loc main_arg4)) shapeCasts_S256_S1x256 := by
  unfold V
  simp only [hostOps0, hostOps0_1, hostOps0_2, hostOps0_3, hostOps0_4, List.flatten_cons, List.flatten_nil, List.append_nil,
    List.cons_append, List.nil_append]
  after_results_simp
  all_goals rfl

/-- Where block 1 lies at a point. -/
theorem idx1 : ∀ t : Fin cfg0.N, win0_1.index t 0 = t.val ∧ win0_1.index t 1 = 0 := by
  decide +kernel

/-- Where block 4 lies at a point. -/
theorem idx4 : ∀ t : Fin cfg0.N, win0_4.index t 0 = 0 ∧ win0_4.index t 1 = 0 := by
  decide +kernel

/-- Where block 5 lies at a point. -/
theorem idx5 : ∀ t : Fin cfg0.N, win0_5.index t 0 = 0 ∧ win0_5.index t 1 = 0 := by
  decide +kernel

/-- Where block 6 lies at a point. -/
theorem idx6 : ∀ t : Fin cfg0.N, win0_6.index t 0 = 0 ∧ win0_6.index t 1 = 0 := by
  decide +kernel

/-- Where block 7 lies at a point. -/
theorem idx7 : ∀ t : Fin cfg0.N, win0_7.index t 0 = 0 ∧ win0_7.index t 1 = 0 := by
  decide +kernel

/-- Block 1 holds 512 rows of the input, zero past the last. -/
theorem iblk1 (m : (ℓ : Loc nD τ sig) → Buf (Elt Ideal) ℓ) (c : Dev nD) (t : Fin cfg0.N) (k : Fin 512) (l : Fin 256) :
    iblk m c 1 t (ix2 k l) = rowOf (m ((c : Thread nD τ).loc main_arg0)) (512 * t.val + k.val) l := by
  have hN : cfg0.N = 196 := N_0
  have ht := t.isLt
  obtain ⟨e0, e1⟩ := idx1 t
  unfold iblk
  rw [View.read_apply, cast_eq]
  show V m c main_v0 _ = _
  rw [V_v0]
  unfold rowOf
  by_cases h : 512 * t.val + k.val < 100000
  · rw [dif_pos h]
    refine pad_apply_of_inside _ _ _ _ _ _ _ _ (ix2 ⟨_, h⟩ l) fun a => ?_
    match a with
    | ⟨0, _⟩ => show win0_1.index t 0 * 512 + 1 * k.val = 0 + (512 * t.val + k.val) * 1; rw [e0]; omega
    | ⟨1, _⟩ => show win0_1.index t 1 * 256 + 1 * l.val = 0 + l.val * 1; rw [e1]; omega
  · rw [dif_neg h]
    refine (pad_apply_of_not_inside _ _ _ _ _ _ _ _ 0 ?_).trans ?_
    · rintro ⟨-, -, h3⟩
      have h4 : (win0_1.index t 0 * 512 + 1 * k.val - 0) / (0 + 1) < 100000 := h3
      rw [e0] at h4; omega
    · show ((((0#32 : BitVec 32).toInt : ℤ) : ℝ) : EReal) = 0; simp

/-- Block 4 is the second half of the aggregation columns. -/
theorem iblk4 (c : Dev nD) (t : Fin cfg0.N) (a b : Fin 256) :
    iblk m c 4 t (ix2 a b) = m ((c : Thread nD τ).loc main_arg2) (ix2 a ⟨256 + b.val, by omega⟩) := by
  obtain ⟨e0, e1⟩ := idx4 t
  unfold iblk
  rw [View.read_apply, cast_eq]
  show V m c main_v5 _ = _
  rw [V_v5]
  unfold extractStridedSlice
  refine congrArg (m ((c : Thread nD τ).loc main_arg2)) (funext fun d => Fin.ext ?_)
  match d with
  | ⟨0, _⟩ => show 0 + (win0_4.index t 0 * 256 + 1 * a.val) = a.val; rw [e0]; omega
  | ⟨1, _⟩ => show 256 + (win0_4.index t 1 * 256 + 1 * b.val) = 256 + b.val; rw [e1]; omega

/-- Block 5 is the first half of the aggregation columns, then their last quarter. -/
theorem iblk5 (c : Dev nD) (t : Fin cfg0.N) (a : Fin 256) (b : Fin 384) :
    iblk m c 5 t (ix2 a b)
      = m ((c : Thread nD τ).loc main_arg2) (ix2 a ⟨if b.val < 256 then b.val else b.val + 128, by split <;> omega⟩) := by
  obtain ⟨e0, e1⟩ := idx5 t
  unfold iblk
  rw [View.read_apply, cast_eq]
  show V m c main_v8 _ = _
  rw [V_v8]
  have e : ((cfg0.win 5).blk t).view.emb (ix2 a b) = (ix2 a b : S256x384.Idx) := by
    funext d; apply Fin.ext
    match d with
    | ⟨0, _⟩ => show win0_5.index t 0 * 256 + 1 * a.val = a.val; rw [e0]; omega
    | ⟨1, _⟩ => show win0_5.index t 1 * 384 + 1 * b.val = b.val; rw [e1]; omega
  refine (congrArg _ e).trans ?_
  pointwise
  split <;> rename_i h
  all_goals
    refine congrArg (m ((c : Thread nD τ).loc main_arg2)) (funext fun d => Fin.ext ?_)
    match d with
    | ⟨0, _⟩ => simp
    | ⟨1, _⟩ => simp [h]; try omega

/-- Block 6 is the output matrix. -/
theorem iblk6 (c : Dev nD) (t : Fin cfg0.N) (a : Fin 512) (b : Fin 256) :
    iblk m c 6 t (ix2 a b) = m ((c : Thread nD τ).loc main_arg3) (ix2 a b) := by
  obtain ⟨e0, e1⟩ := idx6 t
  unfold iblk
  rw [View.read_apply, cast_eq]
  show V m c main_arg3 _ = _
  rw [V_main_arg3]
  refine congrArg (m ((c : Thread nD τ).loc main_arg3)) (funext fun d => Fin.ext ?_)
  match d with
  | ⟨0, _⟩ => show win0_6.index t 0 * 512 + 1 * a.val = a.val; rw [e0]; omega
  | ⟨1, _⟩ => show win0_6.index t 1 * 256 + 1 * b.val = b.val; rw [e1]; omega

/-- Block 7 is the bias. -/
theorem iblk7 (c : Dev nD) (t : Fin cfg0.N) (b : Fin 256) :
    iblk m c 7 t (ix2 0 b) = m ((c : Thread nD τ).loc main_arg4) (ix1 b) := by
  obtain ⟨e0, e1⟩ := idx7 t
  unfold iblk
  rw [View.read_apply, cast_eq]
  show V m c main_v9 _ = _
  rw [V_v9]
  refine shapeCast_apply _ _ _ (ix1 b) ?_
  rw [Shape.rowMajor_val_two, Shape.rowMajor_val_one]
  show b.val = (win0_7.index t 0 * 1 + 1 * 0) * 256 + (win0_7.index t 1 * 256 + 1 * b.val)
  rw [e0, e1]; omega

end Cert.KernelIdeal.Own

end
-- ==== Proof.Own.Frames.lean ====
/- The frame claims: each program terminates, leaves its arguments unchanged and its counters at zero. -/
module

public import proofs.«01_k».proof.Defs
public import proofs.«01_k».proof.Proof.Own.Pre
public import proofs.«01_k».proof.Proof.Own.WordsMachine
public import proofs.«01_k».proof.Proof.Own.Blocks
public import proofs.«01_k».proof.Proof.Gen.ReferenceIdeal.Run
public import Idealize.ShloMosaic.Lib.Quiescent

@[expose] public section

namespace Cert.Own

open Idealize.ShloMosaic Idealize.ShloMosaic.TcCoe Idealize.SL.Sem

/-- The kernel as printed. -/
theorem frame_kernel : Cert.quiescent_Kernel := fun m ρ h =>
  Cert.Kernel.Gen.frame m ρ (Cert.Kernel.Own.hyps_of_range m fun c n => range_of_pre _ _ _ _ _ (h c) n)

/-- The kernel over exact arithmetic. -/
theorem frame_ideal : Cert.quiescent_KernelIdeal := fun m ρ h =>
  Cert.KernelIdeal.Gen.frame m ρ (Cert.KernelIdeal.Own.hyps_of_range m fun c n => range_of_pre _ _ _ _ _ (h c) n)

/-- The same under the second precondition. -/
theorem frame_ideal_sorted : Cert.quiescent_KernelIdeal_pre_sorted_finite := fun m ρ h =>
  Cert.KernelIdeal.Gen.frame m ρ (Cert.KernelIdeal.Own.hyps_of_range m fun c n => range_of_pre' _ _ _ _ _ (h c).1 n)

/-- The reference over exact arithmetic. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the second precondition. -/
theorem frame_reference_sorted : Cert.quiescent_ReferenceIdeal_pre_sorted_finite := fun m ρ _ =>
  frame_reference m ρ trivial

end Cert.Own
-- ==== Proof.Own.Payloads.lean ====
/- What one block computes, read at an entry. -/
module

public import proofs.«01_k».proof.Proof.Gen.KernelIdeal.Frame
public import proofs.«01_k».proof.Proof.Own.Words
public import Idealize.ShloMosaic.Lib.Pointwise

@[expose] public section

noncomputable section

namespace Cert.KernelIdeal.Own

open Cert.KernelIdeal Cert.KernelIdeal.Gen Cert.Own
open Idealize.ShloMosaic Idealize.ShloMosaic.TcCoe

/-- The sign test of a word against eight, as the body spells it. -/
abbrev sgnNe (w : BitVec 32) : BitVec 1 :=
  Scalar.cmpi .ne (Scalar.subi (Scalar.extui (Scalar.cmpi .sgt w 0#32)) (Scalar.extui (Scalar.cmpi .slt w 0#32))) 1#32

/-- A window's row word, and the word a row of segment numbers is compared with. -/
theorem row_word (a : BitVec 32) (ha : a.toNat < 512) (k : ℕ) (hk : k < 10) (r : ℕ) :
    IntOp.addi (BitVec.ofNat 32 r)
      (Scalar.addi
        (Scalar.muli
          (Scalar.select (Scalar.andi (sgnNe a) (Scalar.cmpi .ne (Scalar.remsi a 8#32) 0#32))
            (Scalar.subi (Scalar.divsi a 8#32) 1#32) (Scalar.divsi a 8#32))
          8#32)
        (Scalar.muli (Scf.iv 0#32 1#32 k) 64#32)) = BitVec.ofNat 32 (baseOf a + 64 * k + r) := by
  show IntOp.addi (BitVec.ofNat 32 r) (Scalar.addi (Scalar.muli (fdiv a 8#32) 8#32) (Scalar.muli (Scf.iv 0#32 1#32 k) 64#32)) = _
  have e := win_off a ha k hk
  generalize hw : Scalar.addi (Scalar.muli (fdiv a 8#32) 8#32) (Scalar.muli (Scf.iv 0#32 1#32 k) 64#32) = w at e ⊢
  have ew : w = BitVec.ofNat 32 (baseOf a + 64 * k) := by
    rw [← e]; simp [Scalar.indexCast]
  rw [ew]
  apply BitVec.eq_of_toNat_eq
  simp only [IntOp.addi, BitVec.toNat_add, BitVec.toNat_ofNat]
  omega

/-- The visited segment's word. -/
theorem visit_word (a : BitVec 32) (k : ℕ) :
    Scalar.addi a (Scf.iv 0#32 1#32 k) = BitVec.ofNat 32 (a.toNat + k) := by
  apply BitVec.eq_of_toNat_eq
  simp only [Scalar.addi, IntOp.addi, Scf.iv, BitVec.toNat_add, BitVec.toNat_mul, BitVec.toNat_ofNat]
  omega

/-- One or zero, as two words agree or not. -/
theorem hot (a b : BitVec 32) :
    (FloatOps.sitofp (F := Ideal) FTy.f32 (BitVec.setWidth 32 (IntOp.cmpi CmpIPredicate.eq a b)) : EReal) = if b = a then 1 else 0 := by
  by_cases h : b = a
  · subst h
    rw [if_pos rfl, show IntOp.cmpi CmpIPredicate.eq b b = 1#1 by simp [IntOp.cmpi]]
    show ((((BitVec.setWidth 32 (1#1 : BitVec 1)).toInt : ℤ) : ℝ) : EReal) = 1
    rw [show (BitVec.setWidth 32 (1#1 : BitVec 1)).toInt = 1 by decide]; simp
  · have h' : ¬ a = b := fun e => h e.symm
    rw [if_neg h, show IntOp.cmpi CmpIPredicate.eq a b = 0#1 by simp only [IntOp.cmpi, beq_eq_false_iff_ne.mpr h']; rfl]
    show ((((BitVec.setWidth 32 (0#1 : BitVec 1)).toInt : ℤ) : ℝ) : EReal) = 0
    rw [show (BitVec.setWidth 32 (0#1 : BitVec 1)).toInt = 0 by decide]; simp

/-- The largest of a family, started from the least value. -/
theorem fold_max_bot {ι : Type} [Fintype ι] (f : ι → EReal) : Finset.univ.fold max ⊥ f = Finset.univ.sup f := rfl

/-- The word of minus infinity. -/
theorem ofBits_neg_inf : Ideal.ofBits FTy.f32 4286578688#32 = (⊥ : EReal) := by simp [Ideal.ofBits, Ideal.ieee]

/-- A window's trip adds to each of its 64 counts the rows of the block in that segment. -/
theorem pay15_apply (v13 : IVec S1x512 32) (a b : BitVec 32) (ha : a.toNat < 512) (k : Fin (k0_t1_loop a b).trips) (hk : k.val < 10)
    (v90 : Vec Ideal S64x1 .f32) (r : Fin 64) :
    k0_pay15 (F := Ideal) v13 a b 8#32 (Scalar.divsi a 8#32) (sgnNe a) k v90 (ix2 r 0)
      = v90 (ix2 r 0) + ∑ n : Fin 512, if v13 (ix2 0 n) = BitVec.ofNat 32 (baseOf a + 64 * k.val + r.val) then (1 : EReal) else 0 := by
  unfold k0_pay15 k0_pay13
  pointwise
  simp only [row_word a ha k.val hk, hot]

/-- A window's trip adds to each of its 64 rows the block's rows in that segment. -/
theorem pay14_apply (v13 : IVec S1x512 32) (v16 : FVec Ideal S512x384 .f32) (a b : BitVec 32) (ha : a.toNat < 512) (k : Fin (k0_t1_loop a b).trips) (hk : k.val < 10)
    (v82 : Vec Ideal S64x384 .f32) (r : Fin 64) (l : Fin 384) :
    k0_pay14 (F := Ideal) v13 v16 a b 8#32 (Scalar.divsi a 8#32) (sgnNe a) k v82 (ix2 r l)
      = v82 (ix2 r l) + ∑ n : Fin 512, if v13 (ix2 0 n) = BitVec.ofNat 32 (baseOf a + 64 * k.val + r.val) then (v16 (ix2 n l) : EReal) else 0 := by
  unfold k0_pay14 k0_pay13
  pointwise
  simp only [row_word a ha k.val hk, hot, ite_mul, one_mul, zero_mul]

/-- A visit takes, column by column, the larger of what the row held and the block's rows in that segment. -/
theorem pay1_apply (v8 : FVec Ideal S512x128 .f32) (v15 : IVec S512x1 32) (a b : BitVec 32) (k : Fin (k0_t3_loop a b).trips)
    (v82 : Vec Ideal S1x128 .f32) (l : Fin 128) :
    k0_pay1 (F := Ideal) v8 v15 a b 0#32 1#32 k v82 (ix2 0 l)
      = max (v82 (ix2 0 l) : EReal) (Finset.univ.sup fun n : Fin 512 => if v15 (ix2 n 0) = BitVec.ofNat 32 (a.toNat + k.val) then (v8 (ix2 n l) : EReal) else ⊥) := by
  unfold k0_pay1
  pointwise
  rw [ofBits_neg_inf, fold_max_bot]
  refine congrArg (max _) (Finset.sup_congr rfl fun n _ => ?_)
  rw [visit_word]
  by_cases h : v15 (ix2 n 0) = BitVec.ofNat 32 (a.toNat + k.val)
  · rw [if_pos h, show IntOp.cmpi CmpIPredicate.eq _ _ = 1#1 by simp [IntOp.cmpi, h]]; rfl
  · rw [if_neg h, show IntOp.cmpi CmpIPredicate.eq _ _ = 0#1 by simp only [IntOp.cmpi, beq_eq_false_iff_ne.mpr h]; rfl]; rfl

/-- The first point's stores: zero sums, the least maxima, zero counts. -/
theorem pay4_apply (i : S640x384.Idx) : (k0_pay4 (F := Ideal) i : EReal) = 0 := by
  unfold k0_pay4
  idx_vars i
  pointwise

/-- The maxima start from the least value. -/
theorem pay5_apply (i : S512x128.Idx) : (k0_pay5 (F := Ideal) i : EReal) = ⊥ := by
  unfold k0_pay5
  idx_vars i
  pointwise
  exact ofBits_neg_inf

/-- The counts start from zero. -/
theorem pay6_apply (i : S640x1.Idx) : (k0_pay6 (F := Ideal) i : EReal) = 0 := by
  unfold k0_pay6
  idx_vars i
  pointwise

/-- The block's segment words, as a row and as a column. -/
theorem pay10_apply (x : Vec Ideal S1x1x512 .i32) (n : Fin 512) : k0_pay10 (F := Ideal) x (ix2 0 n) = x (ix3 0 0 n) := by
  unfold k0_pay10
  pointwise

/-- The column of segment words, at a row. -/
theorem pay11_apply (x : Vec Ideal S1x512x1 .i32) (n : Fin 512) : k0_pay11 (F := Ideal) x (ix2 n 0) = x (ix3 0 n 0) := by
  unfold k0_pay11
  pointwise

/-- The block's rows times the first of the two column groups. -/
theorem pay9_apply (x : Vec Ideal S512x256 .f32) (w : Vec Ideal S256x256 .f32) (n : Fin 512) (l : Fin 128) :
    (k0_pay9 (F := Ideal) x w (ix2 n l) : EReal) = ∑ q : Fin 256, (x (ix2 n q) : EReal) * w (ix2 q ⟨l.val, by omega⟩) := by
  unfold k0_pay9 k0_pay8 k0_pay7
  pointwise

/-- The block's rows beside the squares of their last products, at an entry. -/
theorem pay12_apply (x : Vec Ideal S512x256 .f32) (w : Vec Ideal S256x256 .f32) (n : Fin 512) (l : Fin 384) :
    (k0_pay12 (F := Ideal) x w (ix2 n l) : EReal) = if h : l.val < 256 then x (ix2 n ⟨l.val, h⟩) else
      (∑ q : Fin 256, (x (ix2 n q) : EReal) * w (ix2 q ⟨128 + (l.val - 256), by omega⟩)) *
        (∑ q : Fin 256, (x (ix2 n q) : EReal) * w (ix2 q ⟨128 + (l.val - 256), by omega⟩)) := by
  unfold k0_pay12 k0_pay8 k0_pay7
  pointwise

/-- The four groups of 128 columns side by side. -/
def joined (S M X D : Fin 128 → EReal) (x : Fin 512) : EReal :=
  if h : x.val < 128 then S ⟨x.val, h⟩
  else if h : x.val - 128 < 128 then M ⟨x.val - 128, h⟩
  else if h : x.val - 128 - 128 < 128 then X ⟨x.val - 128 - 128, h⟩
  else D ⟨x.val - 128 - 128 - 128, by omega⟩

/-- The joined row from equal parts. -/
theorem joined_congr {S S' M M' X X' D D' : Fin 128 → EReal} (h1 : S = S') (h2 : M = M') (h3 : X = X') (h4 : D = D') :
    joined S M X D = joined S' M' X' D' := by subst h1 h2 h3 h4; rfl

/-- One over the count, a count of zero read as one. -/
def invc (cn : EReal) : EReal := Ideal.div 1 (max cn 1)

/-- A maximum kept where it is finite, and zero where it is not. -/
def keepFin (x : EReal) : EReal :=
  Scalar.select (IntOp.xori (FloatOps.weird (F := Ideal) (x : Elt Ideal .f32)) 1#1) x 0

/-- The square root of what is left of the mean of the squares, never less than zero, and the small constant. -/
def stdOf (sq mm : EReal) : EReal := Ideal.sqrt (max (sq - mm) 0 + Ideal.ofBits FTy.f32 925353388#32)

/-- The last point's result at an entry. -/
theorem pay3_apply (sx : Vec Ideal S512x384 .f32) (cn : Vec Ideal S512x1 .f32) (w : Vec Ideal S256x384 .f32) (mx : Vec Ideal S512x128 .f32)
    (wo : Vec Ideal S512x256 .f32) (bo : Vec Ideal S1x256 .f32) (s : Fin 512) (o : Fin 256) :
    (k0_pay3 (F := Ideal) sx cn w mx wo bo (ix2 s o) : EReal) =
      (∑ x : Fin 512, joined
        (fun j => ∑ q : Fin 256, (sx (ix2 s ⟨q.val, by omega⟩) : EReal) * w (ix2 q ⟨j.val, by omega⟩))
        (fun j => (∑ q : Fin 256, (sx (ix2 s ⟨q.val, by omega⟩) : EReal) * w (ix2 q ⟨128 + j.val, by omega⟩)) * invc (cn (ix2 s 0)))
        (fun j => keepFin (mx (ix2 s j)))
        (fun j => stdOf ((sx (ix2 s ⟨256 + j.val, by omega⟩) : EReal) * invc (cn (ix2 s 0)))
          ((∑ q : Fin 256, (sx (ix2 s ⟨q.val, by omega⟩) : EReal) * w (ix2 q ⟨256 + j.val, by omega⟩)) * invc (cn (ix2 s 0)) *
            ((∑ q : Fin 256, (sx (ix2 s ⟨q.val, by omega⟩) : EReal) * w (ix2 q ⟨256 + j.val, by omega⟩)) * invc (cn (ix2 s 0)))))
        x * wo (ix2 x o)) + bo (ix2 0 o) := by
  unfold k0_pay3 joined invc keepFin stdOf
  pointwise

end Cert.KernelIdeal.Own
-- ==== Proof.Own.Loops.lean ====
/- What the two loops of one block leave in the three running arrays. -/
module

public import proofs.«01_k».proof.Proof.Own.Payloads
public import Idealize.ShloMosaic.Lib.WritesUnit
public import Idealize.ShloMosaic.Lib.Pipeline.ValueKit.Tiles

@[expose] public section

noncomputable section

namespace Cert.KernelIdeal.Own

open Cert.KernelIdeal Cert.KernelIdeal.Gen Cert.Own
open Idealize.ShloMosaic Idealize.ShloMosaic.TcCoe

variable (𝒱 : Variants) (c : Dev nD) (bd : Option 𝒱.V) (i : grid0.Coords) (arg1 : Memref sig .tc .smem S1x1x512 .i32) (harg1 : arg1.IsWhole) (arg2 : Memref sig .tc .vmem S512x256 .f32) (harg2 : arg2.IsWhole) (arg3 : Memref sig .tc .vmem S1x1x512 .i32) (harg3 : arg3.IsWhole) (arg4 : Memref sig .tc .vmem S1x512x1 .i32) (harg4 : arg4.IsWhole) (arg5 : Memref sig .tc .vmem S256x256 .f32) (harg5 : arg5.IsWhole) (arg6 : Memref sig .tc .vmem S256x384 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S640x384 .f32) (harg10 : arg10.IsWhole) (arg11 : Memref sig .tc .vmem S512x128 .f32) (harg11 : arg11.IsWhole) (arg12 : Memref sig .tc .vmem S640x1 .f32) (harg12 : arg12.IsWhole)

/-- A window's trip on the sums: the 64 rows of the window take the block's rows of their segments, and the other rows
    keep what they held. -/
theorem trip1_sum (v13 : IVec S1x512 32) (v16 : FVec Ideal S512x384 .f32) (a b : BitVec 32) (ha : a.toNat < 512) (hb : b.toNat ≤ 512)
    (hw : k0_chk1 a b) (v19 : BitVec 32) (k : Fin (k0_t1_loop a b).trips) (f10 : BufTy.Contents (Elt Ideal) arg10.view.ty)
    (f12 : BufTy.Contents (Elt Ideal) arg12.view.ty) (s : Fin 640) (l : Fin 384) :
    (arg10.view.read (Elt Ideal) (arg10.view.writes (Elt Ideal) f10 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v13 v16 a b hw v19 8#32 (Scalar.divsi a 8#32) (sgnNe a) k f10 f12).1) (ix2 s l) : EReal)
      = if baseOf a + 64 * k.val ≤ s.val ∧ s.val < baseOf a + 64 * k.val + 64 then
          (arg10.view.read (Elt Ideal) f10 (ix2 s l) : EReal) + ∑ n : Fin 512, if v13 (ix2 0 n) = BitVec.ofNat 32 s.val then (v16 (ix2 n l) : EReal) else 0
        else arg10.view.read (Elt Ideal) f10 (ix2 s l) := by
  have hk := nwin_bound a b ha hb k.val (k.isLt.trans_eq (t1_trips a b ha hb))
  unfold tripL_k0_t1 trip_k0_t1
  dsimp only
  split_ifs with h
  · refine (View.read_writes_cons_rows_of_mem (o := baseOf a + 64 * k.val) arg10.view f10 _ _ [] (ix2 s l)
      (ix2 (⟨s.val - (baseOf a + 64 * k.val), by omega⟩ : Fin 64) l) (off1_eq a b ha hb k) ?_ rfl).trans ?_
    · show s.val = _ + (s.val - _); omega
    rw [pay14_apply v13 v16 a b ha k hk.2]
    rw [View.readAt_eq_ld]
    congr 1
    · refine View.ld_unit_apply_of _ _ _ _ _ _ fun x => ?_
      match x with
      | ⟨0, _⟩ =>
        have ho : k0_off1 a b k 0 = baseOf a + 64 * k.val := congrFun (off1_eq a b ha hb k) 0
        show s.val = k0_off1 a b k 0 + (s.val - (baseOf a + 64 * k.val))
        rw [ho]; omega
      | ⟨1, _⟩ =>
        have ho : k0_off1 a b k 1 = 0 := congrFun (off1_eq a b ha hb k) 1
        show l.val = k0_off1 a b k 1 + l.val
        rw [ho]; omega
    · refine Finset.sum_congr rfl fun n _ => ?_
      rw [show baseOf a + 64 * k.val + (s.val - (baseOf a + 64 * k.val)) = s.val by omega]
  · exact View.read_writes_cons_rows_of_not_mem (o := baseOf a + 64 * k.val) (W := 64) arg10.view f10 _ _ [] (ix2 s l) (off1_eq a b ha hb k) rfl
      (by show s.val < _ ∨ _ ≤ s.val; omega)

/-- … and on the counts. -/
theorem trip1_cnt (v13 : IVec S1x512 32) (v16 : FVec Ideal S512x384 .f32) (a b : BitVec 32) (ha : a.toNat < 512) (hb : b.toNat ≤ 512)
    (hw : k0_chk1 a b) (v19 : BitVec 32) (k : Fin (k0_t1_loop a b).trips) (f10 : BufTy.Contents (Elt Ideal) arg10.view.ty)
    (f12 : BufTy.Contents (Elt Ideal) arg12.view.ty) (s : Fin 640) :
    (arg12.view.read (Elt Ideal) (arg12.view.writes (Elt Ideal) f12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v13 v16 a b hw v19 8#32 (Scalar.divsi a 8#32) (sgnNe a) k f10 f12).2) (ix2 s 0) : EReal)
      = if baseOf a + 64 * k.val ≤ s.val ∧ s.val < baseOf a + 64 * k.val + 64 then
          (arg12.view.read (Elt Ideal) f12 (ix2 s 0) : EReal) + ∑ n : Fin 512, if v13 (ix2 0 n) = BitVec.ofNat 32 s.val then (1 : EReal) else 0
        else arg12.view.read (Elt Ideal) f12 (ix2 s 0) := by
  have hk := nwin_bound a b ha hb k.val (k.isLt.trans_eq (t1_trips a b ha hb))
  unfold tripL_k0_t1 trip_k0_t1
  dsimp only
  split_ifs with h
  · refine (View.read_writes_cons_rows_of_mem (o := baseOf a + 64 * k.val) arg12.view f12 _ _ [] (ix2 s 0)
      (ix2 (⟨s.val - (baseOf a + 64 * k.val), by omega⟩ : Fin 64) 0) (off2_eq a b ha hb k) ?_ rfl).trans ?_
    · show s.val = _ + (s.val - _); omega
    rw [pay15_apply v13 a b ha k hk.2]
    rw [View.readAt_eq_ld]
    congr 1
    · refine View.ld_unit_apply_of _ _ _ _ _ _ fun x => ?_
      match x with
      | ⟨0, _⟩ =>
        have ho : k0_off2 a b k 0 = baseOf a + 64 * k.val := congrFun (off2_eq a b ha hb k) 0
        show s.val = k0_off2 a b k 0 + (s.val - (baseOf a + 64 * k.val))
        rw [ho]; omega
      | ⟨1, _⟩ =>
        have ho : k0_off2 a b k 1 = 0 := congrFun (off2_eq a b ha hb k) 1
        show 0 = k0_off2 a b k 1 + 0
        rw [ho]
    · refine Finset.sum_congr rfl fun n _ => ?_
      rw [show baseOf a + 64 * k.val + (s.val - (baseOf a + 64 * k.val)) = s.val by omega]
  · exact View.read_writes_cons_rows_of_not_mem (o := baseOf a + 64 * k.val) (W := 64) arg12.view f12 _ _ [] (ix2 s 0) (off2_eq a b ha hb k) rfl
      (by show s.val < _ ∨ _ ≤ s.val; omega)

/-- A visit on the maxima: the visited row takes the largest of the block's rows in its segment, the others stay. -/
theorem trip3_max (v8 : FVec Ideal S512x128 .f32) (v15 : IVec S512x1 32) (a b : BitVec 32) (ha : a.toNat < 512) (hb : b.toNat ≤ 512)
    (hw : k0_chk1 a b) (k : Fin (k0_t3_loop a b).trips) (f11 : BufTy.Contents (Elt Ideal) arg11.view.ty) (s : Fin 512) (l : Fin 128) :
    (arg11.view.read (Elt Ideal) (arg11.view.writes (Elt Ideal) f11 (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 v8 v15 a b hw 0#32 1#32 k f11)) (ix2 s l) : EReal)
      = if s.val = a.toNat + k.val then
          max (arg11.view.read (Elt Ideal) f11 (ix2 s l) : EReal) (Finset.univ.sup fun n : Fin 512 => if v15 (ix2 n 0) = BitVec.ofNat 32 s.val then (v8 (ix2 n l) : EReal) else ⊥)
        else arg11.view.read (Elt Ideal) f11 (ix2 s l) := by
  unfold tripL_k0_t3 trip_k0_t3
  dsimp only
  split_ifs with h
  · refine (View.read_writes_cons_rows_of_mem (o := a.toNat + k.val) arg11.view f11 _ _ [] (ix2 s l)
      (ix2 (0 : Fin 1) l) (off5_eq a b ha hb k) ?_ rfl).trans ?_
    · show s.val = _ + 0; omega
    rw [pay1_apply v8 v15 a b k, View.readAt_eq_ld, ← h]
    congr 1
    refine View.ld_unit_apply_of _ _ _ _ _ _ fun x => ?_
    match x with
    | ⟨0, _⟩ =>
      have ho : k0_off5 a b k 0 = a.toNat + k.val := congrFun (off5_eq a b ha hb k) 0
      show s.val = k0_off5 a b k 0 + 0
      rw [ho]; omega
    | ⟨1, _⟩ =>
      have ho : k0_off5 a b k 1 = 0 := congrFun (off5_eq a b ha hb k) 1
      show l.val = k0_off5 a b k 1 + l.val
      rw [ho]; omega
  · exact View.read_writes_cons_rows_of_not_mem (o := a.toNat + k.val) (W := 1) arg11.view f11 _ _ [] (ix2 s l) (off5_eq a b ha hb k) rfl
      (by show s.val < _ ∨ _ ≤ s.val; omega)

/-- The first loop, on the sums and the counts: every row the windows hold takes the block's rows of its segment. -/
theorem loop1 (v13 : IVec S1x512 32) (v16 : FVec Ideal S512x384 .f32) (a b : BitVec 32) (ha : a.toNat < 512) (hb : b.toNat ≤ 512)
    (hw : k0_chk1 a b) (v19 : BitVec 32) (G10 : BufTy.Contents (Elt Ideal) arg10.view.ty) (G12 : BufTy.Contents (Elt Ideal) arg12.view.ty)
    (n : ℕ) (hn : n ≤ (k0_t1_loop a b).trips) (s : Fin 640) :
    (∀ l : Fin 384, (arg10.view.read (Elt Ideal) (arg10.view.writes (Elt Ideal) G10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v13 v16 a b hw v19 8#32 (Scalar.divsi a 8#32) (sgnNe a) G10 G12 n).1) (ix2 s l) : EReal)
      = if baseOf a ≤ s.val ∧ s.val < baseOf a + 64 * n then
          (arg10.view.read (Elt Ideal) G10 (ix2 s l) : EReal) + ∑ r : Fin 512, if v13 (ix2 0 r) = BitVec.ofNat 32 s.val then (v16 (ix2 r l) : EReal) else 0
        else arg10.view.read (Elt Ideal) G10 (ix2 s l)) ∧
    (arg12.view.read (Elt Ideal) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v13 v16 a b hw v19 8#32 (Scalar.divsi a 8#32) (sgnNe a) G10 G12 n).2) (ix2 s 0) : EReal)
      = if baseOf a ≤ s.val ∧ s.val < baseOf a + 64 * n then
          (arg12.view.read (Elt Ideal) G12 (ix2 s 0) : EReal) + ∑ r : Fin 512, if v13 (ix2 0 r) = BitVec.ofNat 32 s.val then (1 : EReal) else 0
        else arg12.view.read (Elt Ideal) G12 (ix2 s 0) := by
  induction n with
  | zero =>
    refine ⟨fun l => ?_, ?_⟩
    · rw [if_neg (by omega)]; rfl
    · rw [if_neg (by omega)]; rfl
  | succ n ih =>
    obtain ⟨ih1, ih2⟩ := ih (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v13 v16 a b hw v19 8#32 (Scalar.divsi a 8#32) (sgnNe a) G10 G12 ⟨n, by omega⟩
    dsimp only at e
    rw [e]
    refine ⟨fun l => ?_, ?_⟩
    · dsimp only
      rw [View.writes_append]
      refine (trip1_sum 𝒱 c bd i arg1 harg1 arg2 harg2 arg3 harg3 arg4 harg4 arg5 harg5 arg6 harg6 arg7 harg7 arg8 harg8 arg9 harg9 arg10 harg10 arg11 harg11 arg12 harg12 v13 v16 a b ha hb hw v19 ⟨n, by omega⟩ _ _ s l).trans ?_
      rw [ih1 l]
      dsimp only
      split_ifs <;> first | rfl | omega
    · dsimp only
      rw [View.writes_append]
      refine (trip1_cnt 𝒱 c bd i arg1 harg1 arg2 harg2 arg3 harg3 arg4 harg4 arg5 harg5 arg6 harg6 arg7 harg7 arg8 harg8 arg9 harg9 arg10 harg10 arg11 harg11 arg12 harg12 v13 v16 a b ha hb hw v19 ⟨n, by omega⟩ _ _ s).trans ?_
      rw [ih2]
      dsimp only
      split_ifs <;> first | rfl | omega

/-- The second loop, on the maxima: every visited row takes the largest of the block's rows in its segment. -/
theorem loop3 (v8 : FVec Ideal S512x128 .f32) (v15 : IVec S512x1 32) (a b : BitVec 32) (ha : a.toNat < 512) (hb : b.toNat ≤ 512)
    (hw : k0_chk1 a b) (G11 : BufTy.Contents (Elt Ideal) arg11.view.ty)
    (n : ℕ) (hn : n ≤ (k0_t3_loop a b).trips) (s : Fin 512) (l : Fin 128) :
    (arg11.view.read (Elt Ideal) (arg11.view.writes (Elt Ideal) G11 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 v8 v15 a b hw 0#32 1#32 G11 n)) (ix2 s l) : EReal)
      = if a.toNat ≤ s.val ∧ s.val < a.toNat + n then
          max (arg11.view.read (Elt Ideal) G11 (ix2 s l) : EReal) (Finset.univ.sup fun r : Fin 512 => if v15 (ix2 r 0) = BitVec.ofNat 32 s.val then (v8 (ix2 r l) : EReal) else ⊥)
        else arg11.view.read (Elt Ideal) G11 (ix2 s l) := by
  induction n with
  | zero => rw [if_neg (by omega)]; rfl
  | succ n ih =>
    have ih1 := ih (by omega)
    have e := pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 v8 v15 a b hw 0#32 1#32 G11 ⟨n, by omega⟩
    dsimp only at e
    rw [e, View.writes_append]
    refine (trip3_max 𝒱 c bd i arg1 harg1 arg2 harg2 arg3 harg3 arg4 harg4 arg5 harg5 arg6 harg6 arg7 harg7 arg8 harg8 arg9 harg9 arg10 harg10 arg11 harg11 arg12 harg12 v8 v15 a b ha hb hw ⟨n, by omega⟩ _ s l).trans ?_
    rw [ih1]
    dsimp only
    split_ifs <;> first | rfl | omega

end Cert.KernelIdeal.Own
-- ==== Proof.Own.Cases.lean ====
/- What one block leaves in the three running arrays and, for the last block, in the result. -/
module

public import proofs.«01_k».proof.Proof.Own.Loops

@[expose] public section

noncomputable section

namespace Cert.KernelIdeal.Own

open Cert.KernelIdeal Cert.KernelIdeal.Gen Cert.Own
open Idealize.ShloMosaic Idealize.ShloMosaic.TcCoe

variable (c : Dev nD) (i : grid0.Coords) (arg1 : Memref sig .tc .smem S1x1x512 .i32) (harg1 : arg1.IsWhole) (arg2 : Memref sig .tc .vmem S512x256 .f32) (harg2 : arg2.IsWhole) (arg3 : Memref sig .tc .vmem S1x1x512 .i32) (harg3 : arg3.IsWhole) (arg4 : Memref sig .tc .vmem S1x512x1 .i32) (harg4 : arg4.IsWhole) (arg5 : Memref sig .tc .vmem S256x256 .f32) (harg5 : arg5.IsWhole) (arg6 : Memref sig .tc .vmem S256x384 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S640x384 .f32) (harg10 : arg10.IsWhole) (arg11 : Memref sig .tc .vmem S512x128 .f32) (harg11 : arg11.IsWhole) (arg12 : Memref sig .tc .vmem S640x1 .f32) (harg12 : arg12.IsWhole)

/-- The block's first segment word and its last, as the body reads them. -/
abbrev fstW (x0 : Vec Ideal S1x1x512 .i32) : BitVec 32 :=
  arg1.view.readAt (Elt Ideal) (Rect.unit (s := S1x1x512) ![0, 0, 0] S1x1x1.size inb_S1x1x512_S1x1x1_0_0_0).toLoadRect (harg1.unread x0) (Shape.Idx.first (numel1_S1x1x1.symm ▸ Nat.one_pos))

/-- The word of the block's last row. -/
abbrev lstW (x0 : Vec Ideal S1x1x512 .i32) : BitVec 32 :=
  arg1.view.readAt (Elt Ideal) (Rect.unit (s := S1x1x512) ![0, 0, 511] S1x1x1.size inb_S1x1x512_S1x1x1_0_0_511).toLoadRect (harg1.unread x0) (Shape.Idx.first (numel1_S1x1x1.symm ▸ Nat.one_pos))

/-- The corner offsets. -/
theorem hz2 : (![0, 0] : Fin 2 → ℕ) = fun _ => 0 := by decide
/-- A rank-three corner at the origin. -/
theorem hz3 : (![0, 0, 0] : Fin 3 → ℕ) = fun _ => 0 := by decide

/-- A buffer read whole after a whole array was put in it. -/
theorem whole_read {S : Shape} {e : EltTy} {sp : Space} (M : Memref sig .tc sp S e) (h : M.IsWhole) (x : Vec Ideal S e) {off : Fin S.rank → Nat}
    (hz : off = fun _ => 0) (inb : ∀ a, off a + S.size a ≤ S.size a) :
    M.view.readAt (Elt Ideal) (Rect.unit off S.size inb).toLoadRect (h.unread x) = x := by
  rw [View.readAt_eq_ld, h.read_unread, View.ld_unit_zero hz]

/-- The windows of a block together, on the sums and on the counts. -/
theorem body1 (v13 : IVec S1x512 32) (v16 : FVec Ideal S512x384 .f32) (a b : BitVec 32) (ha : a.toNat < 512) (hb : b.toNat ≤ 512)
    (hw : k0_chk1 a b) (v19 : BitVec 32) (G10 : BufTy.Contents (Elt Ideal) arg10.view.ty) (G12 : BufTy.Contents (Elt Ideal) arg12.view.ty)
    (n : ℕ) (hn : n = (k0_t1_loop a b).trips) (T : List (View.Piece (Elt Ideal) S640x384 .f32)) (hT : T = [])
    (s : Fin 640) (l : Fin 384) :
    (arg10.view.read (Elt Ideal) (arg10.view.writes (Elt Ideal) G10 (T ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 v13 v16 a b hw v19 8#32 (Scalar.divsi a 8#32) (sgnNe a) G10 G12 n).1)) (ix2 s l) : EReal)
      = if baseOf a ≤ s.val ∧ s.val < baseOf a + 64 * nwin a b then
          (arg10.view.read (Elt Ideal) G10 (ix2 s l) : EReal) + ∑ r : Fin 512, if v13 (ix2 0 r) = BitVec.ofNat 32 s.val then (v16 (ix2 r l) : EReal) else 0
        else arg10.view.read (Elt Ideal) G10 (ix2 s l) := by
  subst hT
  rw [List.nil_append, (loop1 Variants.none c none i arg1 harg1 arg2 harg2 arg3 harg3 arg4 harg4 arg5 harg5 arg6 harg6 arg7 harg7 arg8 harg8 arg9 harg9 arg10 harg10 arg11 harg11 arg12 harg12 v13 v16 a b ha hb hw v19 G10 G12 n hn.le s).1 l, hn, t1_trips a b ha hb]

/-- … and on the counts. -/
theorem body1c (v13 : IVec S1x512 32) (v16 : FVec Ideal S512x384 .f32) (a b : BitVec 32) (ha : a.toNat < 512) (hb : b.toNat ≤ 512)
    (hw : k0_chk1 a b) (v19 : BitVec 32) (G10 : BufTy.Contents (Elt Ideal) arg10.view.ty) (G12 : BufTy.Contents (Elt Ideal) arg12.view.ty)
    (n : ℕ) (hn : n = (k0_t1_loop a b).trips) (T : List (View.Piece (Elt Ideal) S640x1 .f32)) (hT : T = [])
    (s : Fin 640) :
    (arg12.view.read (Elt Ideal) (arg12.view.writes (Elt Ideal) G12 (T ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 v13 v16 a b hw v19 8#32 (Scalar.divsi a 8#32) (sgnNe a) G10 G12 n).2)) (ix2 s 0) : EReal)
      = if baseOf a ≤ s.val ∧ s.val < baseOf a + 64 * nwin a b then
          (arg12.view.read (Elt Ideal) G12 (ix2 s 0) : EReal) + ∑ r : Fin 512, if v13 (ix2 0 r) = BitVec.ofNat 32 s.val then (1 : EReal) else 0
        else arg12.view.read (Elt Ideal) G12 (ix2 s 0) := by
  subst hT
  rw [List.nil_append, (loop1 Variants.none c none i arg1 harg1 arg2 harg2 arg3 harg3 arg4 harg4 arg5 harg5 arg6 harg6 arg7 harg7 arg8 harg8 arg9 harg9 arg10 harg10 arg11 harg11 arg12 harg12 v13 v16 a b ha hb hw v19 G10 G12 n hn.le s).2, hn, t1_trips a b ha hb]

/-- The visits of a block together, on the maxima. -/
theorem body3 (v8 : FVec Ideal S512x128 .f32) (v15 : IVec S512x1 32) (a b : BitVec 32) (ha : a.toNat < 512) (hb : b.toNat ≤ 512)
    (hw : k0_chk1 a b) (G11 : BufTy.Contents (Elt Ideal) arg11.view.ty)
    (n : ℕ) (hn : n = (k0_t3_loop a b).trips) (T : List (View.Piece (Elt Ideal) S512x128 .f32)) (hT : T = [])
    (s : Fin 512) (l : Fin 128) :
    (arg11.view.read (Elt Ideal) (arg11.view.writes (Elt Ideal) G11 (T ++ pb_k0_t3 (F := Ideal) Variants.none c none i arg1 harg1 arg2 harg2 arg3 harg3 arg4 harg4 arg5 harg5 arg6 harg6 arg7 harg7 arg8 harg8 arg9 harg9 arg10 harg10 arg11 harg11 arg12 harg12 v8 v15 a b hw 0#32 1#32 G11 n)) (ix2 s l) : EReal)
      = if a.toNat ≤ s.val ∧ s.val < a.toNat + ((hiOf b : Int) - a.toNat + 1).toNat then
          max (arg11.view.read (Elt Ideal) G11 (ix2 s l) : EReal) (Finset.univ.sup fun r : Fin 512 => if v15 (ix2 r 0) = BitVec.ofNat 32 s.val then (v8 (ix2 r l) : EReal) else ⊥)
        else arg11.view.read (Elt Ideal) G11 (ix2 s l) := by
  subst hT
  rw [List.nil_append, loop3 Variants.none c none i arg1 harg1 arg2 harg2 arg3 harg3 arg4 harg4 arg5 harg5 arg6 harg6 arg7 harg7 arg8 harg8 arg9 harg9 arg10 harg10 arg11 harg11 arg12 harg12 v8 v15 a b ha hb hw G11 n hn.le s l, hn, t3_trips a b ha hb]

/-- The loops over nothing add no write. -/
theorem none2 (v13 : IVec S1x512 32) (v16 : FVec Ideal S512x384 .f32) (a b : BitVec 32)
    (hw : k0_chk1 a b) (v19 c8 v20 : BitVec 32) (v31 : BitVec 1) (G10 : BufTy.Contents (Elt Ideal) arg10.view.ty) (G12 : BufTy.Contents (Elt Ideal) arg12.view.ty)
    (n : ℕ) (hn : n = (k0_t2_loop a b).trips) :
    pb_k0_t2 (F := Ideal) Variants.none c none i arg1 harg1 arg2 harg2 arg3 harg3 arg4 harg4 arg5 harg5 arg6 harg6 arg7 harg7 arg8 harg8 arg9 harg9 arg10 harg10 arg11 harg11 arg12 harg12 v13 v16 a b hw v19 c8 v20 v31 G10 G12 n = ([], []) := by
  rw [hn, t2_trips]; rfl

/-- The rest of the loop over the visits makes no trip. -/
theorem none4 (v8 : FVec Ideal S512x128 .f32) (v15 : IVec S512x1 32) (a b : BitVec 32)
    (hw : k0_chk1 a b) (v68 : BitVec 32) (G11 : BufTy.Contents (Elt Ideal) arg11.view.ty)
    (n : ℕ) (hn : n = (k0_t4_loop a b).trips) :
    pb_k0_t4 (F := Ideal) Variants.none c none i arg1 harg1 arg2 harg2 arg3 harg3 arg4 harg4 arg5 harg5 arg6 harg6 arg7 harg7 arg8 harg8 arg9 harg9 arg10 harg10 arg11 harg11 arg12 harg12 v8 v15 a b hw v68 G11 n = [] := by
  rw [hn, t4_trips]; rfl

/-- A later block on the sums. -/
theorem sum_B (hc0 : ¬cond0_0 i) (hc1 : ¬cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (xs0 : Vec Ideal S640x384 .f32) (xs1 : Vec Ideal S512x128 .f32) (xs2 : Vec Ideal S640x1 .f32) (hw : k0_chk1 (fstW arg1 harg1 x0) (lstW arg1 harg1 x0)) (ha : (fstW arg1 harg1 x0).toNat < 512) (hb : (lstW arg1 harg1 x0).toNat ≤ 512) (s : Fin 640) (l : Fin 384) :
    (sout0_B_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw (ix2 s l) : EReal)
      = if baseOf (fstW arg1 harg1 x0) ≤ s.val ∧ s.val < baseOf (fstW arg1 harg1 x0) + 64 * nwin (fstW arg1 harg1 x0) (lstW arg1 harg1 x0) then
          (xs0 (ix2 s l) : EReal) + ∑ r : Fin 512, if x2 (ix3 0 0 r) = BitVec.ofNat 32 s.val then (k0_pay12 (F := Ideal) x1 x4 (ix2 r l) : EReal) else 0
        else xs0 (ix2 s l) := by
  unfold sout0_B_0 kernelRun0_B
  dsimp only
  refine (body1 c i arg1 harg1 arg2 harg2 arg3 harg3 arg4 harg4 arg5 harg5 arg6 harg6 arg7 harg7 arg8 harg8 arg9 harg9 arg10 harg10 arg11 harg11 arg12 harg12 _ _ _ _ ha hb hw _ _ _ _ rfl _ (congrArg Prod.fst (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl)) s l).trans ?_
  sl_unfold_words
  rw [whole_read arg3 harg3 x2 hz3, whole_read arg2 harg2 x1 hz2, whole_read arg5 harg5 x4 hz2, harg10.read_unread]
  simp only [pay10_apply]

/-- A later block on the counts. -/
theorem cnt_B (hc0 : ¬cond0_0 i) (hc1 : ¬cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (xs0 : Vec Ideal S640x384 .f32) (xs1 : Vec Ideal S512x128 .f32) (xs2 : Vec Ideal S640x1 .f32) (hw : k0_chk1 (fstW arg1 harg1 x0) (lstW arg1 harg1 x0)) (ha : (fstW arg1 harg1 x0).toNat < 512) (hb : (lstW arg1 harg1 x0).toNat ≤ 512) (s : Fin 640) :
    (sout0_B_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw (ix2 s 0) : EReal)
      = if baseOf (fstW arg1 harg1 x0) ≤ s.val ∧ s.val < baseOf (fstW arg1 harg1 x0) + 64 * nwin (fstW arg1 harg1 x0) (lstW arg1 harg1 x0) then
          (xs2 (ix2 s 0) : EReal) + ∑ r : Fin 512, if x2 (ix3 0 0 r) = BitVec.ofNat 32 s.val then (1 : EReal) else 0
        else xs2 (ix2 s 0) := by
  unfold sout0_B_2 kernelRun0_B
  dsimp only
  refine (body1c c i arg1 harg1 arg2 harg2 arg3 harg3 arg4 harg4 arg5 harg5 arg6 harg6 arg7 harg7 arg8 harg8 arg9 harg9 arg10 harg10 arg11 harg11 arg12 harg12 _ _ _ _ ha hb hw _ _ _ _ rfl _ (congrArg Prod.snd (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl)) s).trans ?_
  sl_unfold_words
  rw [whole_read arg3 harg3 x2 hz3, harg12.read_unread]
  simp only [pay10_apply]

/-- A later block on the maxima. -/
theorem max_B (hc0 : ¬cond0_0 i) (hc1 : ¬cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (xs0 : Vec Ideal S640x384 .f32) (xs1 : Vec Ideal S512x128 .f32) (xs2 : Vec Ideal S640x1 .f32) (hw : k0_chk1 (fstW arg1 harg1 x0) (lstW arg1 harg1 x0)) (ha : (fstW arg1 harg1 x0).toNat < 512) (hb : (lstW arg1 harg1 x0).toNat ≤ 512) (s : Fin 512) (l : Fin 128) :
    (sout0_B_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw (ix2 s l) : EReal)
      = if (fstW arg1 harg1 x0).toNat ≤ s.val ∧ s.val < (fstW arg1 harg1 x0).toNat + ((hiOf (lstW arg1 harg1 x0) : Int) - (fstW arg1 harg1 x0).toNat + 1).toNat then
          max (xs1 (ix2 s l) : EReal) (Finset.univ.sup fun r : Fin 512 => if x3 (ix3 0 r 0) = BitVec.ofNat 32 s.val then (k0_pay9 (F := Ideal) x1 x4 (ix2 r l) : EReal) else ⊥)
        else xs1 (ix2 s l) := by
  unfold sout0_B_1 kernelRun0_B
  dsimp only
  refine (body3 c i arg1 harg1 arg2 harg2 arg3 harg3 arg4 harg4 arg5 harg5 arg6 harg6 arg7 harg7 arg8 harg8 arg9 harg9 arg10 harg10 arg11 harg11 arg12 harg12 _ _ _ _ ha hb hw _ _ rfl _ (none4 c i arg1 harg1 arg2 harg2 arg3 harg3 arg4 harg4 arg5 harg5 arg6 harg6 arg7 harg7 arg8 harg8 arg9 harg9 arg10 harg10 arg11 harg11 arg12 harg12 _ _ _ _ hw _ _ _ rfl) s l).trans ?_
  sl_unfold_words
  rw [whole_read arg4 harg4 x3 hz3, whole_read arg2 harg2 x1 hz2, whole_read arg5 harg5 x4 hz2, harg11.read_unread]
  simp only [pay11_apply]

/-- A later block on the sums. -/
theorem sum_C (hc0 : ¬cond0_0 i) (hc1 : cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (xs0 : Vec Ideal S640x384 .f32) (xs1 : Vec Ideal S512x128 .f32) (xs2 : Vec Ideal S640x1 .f32) (hw : k0_chk1 (fstW arg1 harg1 x0) (lstW arg1 harg1 x0)) (ha : (fstW arg1 harg1 x0).toNat < 512) (hb : (lstW arg1 harg1 x0).toNat ≤ 512) (s : Fin 640) (l : Fin 384) :
    (sout0_C_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw (ix2 s l) : EReal)
      = if baseOf (fstW arg1 harg1 x0) ≤ s.val ∧ s.val < baseOf (fstW arg1 harg1 x0) + 64 * nwin (fstW arg1 harg1 x0) (lstW arg1 harg1 x0) then
          (xs0 (ix2 s l) : EReal) + ∑ r : Fin 512, if x2 (ix3 0 0 r) = BitVec.ofNat 32 s.val then (k0_pay12 (F := Ideal) x1 x4 (ix2 r l) : EReal) else 0
        else xs0 (ix2 s l) := by
  unfold sout0_C_0 kernelRun0_C
  dsimp only
  refine (body1 c i arg1 harg1 arg2 harg2 arg3 harg3 arg4 harg4 arg5 harg5 arg6 harg6 arg7 harg7 arg8 harg8 arg9 harg9 arg10 harg10 arg11 harg11 arg12 harg12 _ _ _ _ ha hb hw _ _ _ _ rfl _ (congrArg Prod.fst (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl)) s l).trans ?_
  sl_unfold_words
  rw [whole_read arg3 harg3 x2 hz3, whole_read arg2 harg2 x1 hz2, whole_read arg5 harg5 x4 hz2, harg10.read_unread]
  simp only [pay10_apply]

/-- A later block on the counts. -/
theorem cnt_C (hc0 : ¬cond0_0 i) (hc1 : cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (xs0 : Vec Ideal S640x384 .f32) (xs1 : Vec Ideal S512x128 .f32) (xs2 : Vec Ideal S640x1 .f32) (hw : k0_chk1 (fstW arg1 harg1 x0) (lstW arg1 harg1 x0)) (ha : (fstW arg1 harg1 x0).toNat < 512) (hb : (lstW arg1 harg1 x0).toNat ≤ 512) (s : Fin 640) :
    (sout0_C_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw (ix2 s 0) : EReal)
      = if baseOf (fstW arg1 harg1 x0) ≤ s.val ∧ s.val < baseOf (fstW arg1 harg1 x0) + 64 * nwin (fstW arg1 harg1 x0) (lstW arg1 harg1 x0) then
          (xs2 (ix2 s 0) : EReal) + ∑ r : Fin 512, if x2 (ix3 0 0 r) = BitVec.ofNat 32 s.val then (1 : EReal) else 0
        else xs2 (ix2 s 0) := by
  unfold sout0_C_2 kernelRun0_C
  dsimp only
  refine (body1c c i arg1 harg1 arg2 harg2 arg3 harg3 arg4 harg4 arg5 harg5 arg6 harg6 arg7 harg7 arg8 harg8 arg9 harg9 arg10 harg10 arg11 harg11 arg12 harg12 _ _ _ _ ha hb hw _ _ _ _ rfl _ (congrArg Prod.snd (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl)) s).trans ?_
  sl_unfold_words
  rw [whole_read arg3 harg3 x2 hz3, harg12.read_unread]
  simp only [pay10_apply]

/-- A later block on the maxima. -/
theorem max_C (hc0 : ¬cond0_0 i) (hc1 : cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (xs0 : Vec Ideal S640x384 .f32) (xs1 : Vec Ideal S512x128 .f32) (xs2 : Vec Ideal S640x1 .f32) (hw : k0_chk1 (fstW arg1 harg1 x0) (lstW arg1 harg1 x0)) (ha : (fstW arg1 harg1 x0).toNat < 512) (hb : (lstW arg1 harg1 x0).toNat ≤ 512) (s : Fin 512) (l : Fin 128) :
    (sout0_C_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw (ix2 s l) : EReal)
      = if (fstW arg1 harg1 x0).toNat ≤ s.val ∧ s.val < (fstW arg1 harg1 x0).toNat + ((hiOf (lstW arg1 harg1 x0) : Int) - (fstW arg1 harg1 x0).toNat + 1).toNat then
          max (xs1 (ix2 s l) : EReal) (Finset.univ.sup fun r : Fin 512 => if x3 (ix3 0 r 0) = BitVec.ofNat 32 s.val then (k0_pay9 (F := Ideal) x1 x4 (ix2 r l) : EReal) else ⊥)
        else xs1 (ix2 s l) := by
  unfold sout0_C_1 kernelRun0_C
  dsimp only
  refine (body3 c i arg1 harg1 arg2 harg2 arg3 harg3 arg4 harg4 arg5 harg5 arg6 harg6 arg7 harg7 arg8 harg8 arg9 harg9 arg10 harg10 arg11 harg11 arg12 harg12 _ _ _ _ ha hb hw _ _ rfl _ (none4 c i arg1 harg1 arg2 harg2 arg3 harg3 arg4 harg4 arg5 harg5 arg6 harg6 arg7 harg7 arg8 harg8 arg9 harg9 arg10 harg10 arg11 harg11 arg12 harg12 _ _ _ _ hw _ _ _ rfl) s l).trans ?_
  sl_unfold_words
  rw [whole_read arg4 harg4 x3 hz3, whole_read arg2 harg2 x1 hz2, whole_read arg5 harg5 x4 hz2, harg11.read_unread]
  simp only [pay11_apply]

/-- A run's list of writes on a fresh buffer, read through another view of it. -/
theorem rebase {S : Shape} {e : EltTy} {sp sp' : Space} (V : View sig .tc sp S e) (W : View sig .tc sp' S e) (T P I : List (View.Piece (Elt Ideal) S e)) (hT : T = []) :
    V.read (Elt Ideal) (V.writes (Elt Ideal) V.junk (T ++ (P ++ I))) = W.read (Elt Ideal) (W.writes (Elt Ideal) (W.writes (Elt Ideal) W.junk I) (T ++ P)) := by
  subst hT
  rw [View.read_writes_junk_eq_canon, List.nil_append, List.nil_append, ← View.writes_append, View.read_writes_junk_eq_canon]

/-- The first block on the sums. -/
theorem sum_A (hc0 : cond0_0 i) (hc1 : ¬cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (hw : k0_chk1 (fstW arg1 harg1 x0) (lstW arg1 harg1 x0)) (ha : (fstW arg1 harg1 x0).toNat < 512) (hb : (lstW arg1 harg1 x0).toNat ≤ 512) (s : Fin 640) (l : Fin 384) :
    (sout0_A_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 hw (ix2 s l) : EReal)
      = if baseOf (fstW arg1 harg1 x0) ≤ s.val ∧ s.val < baseOf (fstW arg1 harg1 x0) + 64 * nwin (fstW arg1 harg1 x0) (lstW arg1 harg1 x0) then
          0 + ∑ r : Fin 512, if x2 (ix3 0 0 r) = BitVec.ofNat 32 s.val then (k0_pay12 (F := Ideal) x1 x4 (ix2 r l) : EReal) else 0
        else 0 := by
  unfold sout0_A_0 kernelRun0_A
  dsimp only
  refine (congrFun (rebase VS0_0 arg10.view _ _ _ (congrArg Prod.fst (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl))) _).trans ?_
  refine (body1 c i arg1 harg1 arg2 harg2 arg3 harg3 arg4 harg4 arg5 harg5 arg6 harg6 arg7 harg7 arg8 harg8 arg9 harg9 arg10 harg10 arg11 harg11 arg12 harg12 _ _ _ _ ha hb hw _ _ _ _ rfl _ (congrArg Prod.fst (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl)) s l).trans ?_
  sl_unfold_words
  rw [whole_read arg3 harg3 x2 hz3, whole_read arg2 harg2 x1 hz2, whole_read arg5 harg5 x4 hz2,
    View.read_writes_junk_eq_canon, View.canon_unit_zero hz2]
  simp only [pay10_apply, pay4_apply]

/-- The first block on the counts. -/
theorem cnt_A (hc0 : cond0_0 i) (hc1 : ¬cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (hw : k0_chk1 (fstW arg1 harg1 x0) (lstW arg1 harg1 x0)) (ha : (fstW arg1 harg1 x0).toNat < 512) (hb : (lstW arg1 harg1 x0).toNat ≤ 512) (s : Fin 640) :
    (sout0_A_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 hw (ix2 s 0) : EReal)
      = if baseOf (fstW arg1 harg1 x0) ≤ s.val ∧ s.val < baseOf (fstW arg1 harg1 x0) + 64 * nwin (fstW arg1 harg1 x0) (lstW arg1 harg1 x0) then
          0 + ∑ r : Fin 512, if x2 (ix3 0 0 r) = BitVec.ofNat 32 s.val then (1 : EReal) else 0
        else 0 := by
  unfold sout0_A_2 kernelRun0_A
  dsimp only
  refine (congrFun (rebase VS0_2 arg12.view _ _ _ (congrArg Prod.snd (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl))) _).trans ?_
  refine (body1c c i arg1 harg1 arg2 harg2 arg3 harg3 arg4 harg4 arg5 harg5 arg6 harg6 arg7 harg7 arg8 harg8 arg9 harg9 arg10 harg10 arg11 harg11 arg12 harg12 _ _ _ _ ha hb hw _ _ _ _ rfl _ (congrArg Prod.snd (none2 c i arg1 harg1 arg2 harg2 arg3 harg3 arg4 harg4 arg5 harg5 arg6 harg6 arg7 harg7 arg8 harg8 arg9 harg9 arg10 harg10 arg11 harg11 arg12 harg12 _ _ _ _ hw _ _ _ _ _ _ _ rfl)) s).trans ?_
  sl_unfold_words
  rw [whole_read arg3 harg3 x2 hz3, View.read_writes_junk_eq_canon, View.canon_unit_zero hz2]
  simp only [pay10_apply, pay6_apply]

/-- The first block on the maxima. -/
theorem max_A (hc0 : cond0_0 i) (hc1 : ¬cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (hw : k0_chk1 (fstW arg1 harg1 x0) (lstW arg1 harg1 x0)) (ha : (fstW arg1 harg1 x0).toNat < 512) (hb : (lstW arg1 harg1 x0).toNat ≤ 512) (s : Fin 512) (l : Fin 128) :
    (sout0_A_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 hw (ix2 s l) : EReal)
      = if (fstW arg1 harg1 x0).toNat ≤ s.val ∧ s.val < (fstW arg1 harg1 x0).toNat + ((hiOf (lstW arg1 harg1 x0) : Int) - (fstW arg1 harg1 x0).toNat + 1).toNat then
          max ⊥ (Finset.univ.sup fun r : Fin 512 => if x3 (ix3 0 r 0) = BitVec.ofNat 32 s.val then (k0_pay9 (F := Ideal) x1 x4 (ix2 r l) : EReal) else ⊥)
        else ⊥ := by
  unfold sout0_A_1 kernelRun0_A
  dsimp only
  refine (congrFun (rebase VS0_1 arg11.view _ _ _ (none4 c i arg1 harg1 arg2 harg2 arg3 harg3 arg4 harg4 arg5 harg5 arg6 harg6 arg7 harg7 arg8 harg8 arg9 harg9 arg10 harg10 arg11 harg11 arg12 harg12 _ _ _ _ hw _ _ _ rfl)) _).trans ?_
  refine (body3 c i arg1 harg1 arg2 harg2 arg3 harg3 arg4 harg4 arg5 harg5 arg6 harg6 arg7 harg7 arg8 harg8 arg9 harg9 arg10 harg10 arg11 harg11 arg12 harg12 _ _ _ _ ha hb hw _ _ rfl _ (none4 c i arg1 harg1 arg2 harg2 arg3 harg3 arg4 harg4 arg5 harg5 arg6 harg6 arg7 harg7 arg8 harg8 arg9 harg9 arg10 harg10 arg11 harg11 arg12 harg12 _ _ _ _ hw _ _ _ rfl) s l).trans ?_
  sl_unfold_words
  rw [whole_read arg4 harg4 x3 hz3, whole_read arg2 harg2 x1 hz2, whole_read arg5 harg5 x4 hz2,
    View.read_writes_junk_eq_canon, View.canon_unit_zero hz2]
  simp only [pay11_apply, pay5_apply]

/-- The result's block from equal parts. -/
theorem pay3_congr {a a' : Vec Ideal S512x384 .f32} {b b' : Vec Ideal S512x1 .f32} {w w' : Vec Ideal S256x384 .f32} {m m' : Vec Ideal S512x128 .f32}
    {o o' : Vec Ideal S512x256 .f32} {z z' : Vec Ideal S1x256 .f32} (h1 : a = a') (h2 : b = b') (h3 : w = w') (h4 : m = m') (h5 : o = o') (h6 : z = z') :
    k0_pay3 (F := Ideal) a b w m o z = k0_pay3 (F := Ideal) a' b' w' m' o' z' := by
  subst h1 h2 h3 h4 h5 h6; rfl

/-- The last block's result, from the three arrays it leaves. -/
theorem out_C (hc0 : ¬cond0_0 i) (hc1 : cond0_1 i) (x0 : Vec Ideal S1x1x512 .i32) (x1 : Vec Ideal S512x256 .f32) (x2 : Vec Ideal S1x1x512 .i32) (x3 : Vec Ideal S1x512x1 .i32) (x4 : Vec Ideal S256x256 .f32) (x5 : Vec Ideal S256x384 .f32) (x6 : Vec Ideal S512x256 .f32) (x7 : Vec Ideal S1x256 .f32) (xs0 : Vec Ideal S640x384 .f32) (xs1 : Vec Ideal S512x128 .f32) (xs2 : Vec Ideal S640x1 .f32) (hw : k0_chk1 (fstW arg1 harg1 x0) (lstW arg1 harg1 x0)) :
    out0_C_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw = k0_pay3 (F := Ideal)
      (View.ld (sout0_C_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw) (Rect.unit (s := S640x384) ![0, 0] S512x384.size inb_S640x384_S512x384_0_0))
      (View.ld (sout0_C_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw) (Rect.unit (s := S640x1) ![0, 0] S512x1.size inb_S640x1_S512x1_0_0))
      x5 (sout0_C_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 xs2 hw) x6 x7 := by
  unfold out0_C_8 sout0_C_0 sout0_C_1 sout0_C_2 kernelRun0_C
  dsimp only
  rw [View.read_writes_junk_eq_canon, View.canon_unit_zero hz2]
  exact pay3_congr rfl rfl (whole_read arg6 harg6 x5 hz2 _) ((View.readAt_eq_ld _ _ _).trans (View.ld_unit_zero hz2 _ _))
    (whole_read arg7 harg7 x6 hz2 _) (whole_read arg8 harg8 x7 hz2 _)

end Cert.KernelIdeal.Own
-- ==== Proof.Own.Running.lean ====
/- What the three running arrays hold after each point: the sums, the counts and the maxima over the rows so far. -/
module

public import proofs.«01_k».proof.Proof.Own.Cases
public import proofs.«01_k».proof.Proof.Own.Blocks

@[expose] public section

noncomputable section

namespace Cert.KernelIdeal.Own

open Cert.KernelIdeal Cert.KernelIdeal.Gen Cert.Own
open Idealize.ShloMosaic Idealize.ShloMosaic.TcCoe

/-- What a row brings to the sums: its 256 entries, then the squares of its last 128 products. -/
def sumVal (x : (⟨2, ![100000, 256]⟩ : Shape).Idx → EReal) (w : (⟨2, ![256, 512]⟩ : Shape).Idx → EReal) (k : ℕ) (l : Fin 384) : EReal :=
  if h : l.val < 256 then rowOf x k ⟨l.val, h⟩ else
    (∑ q : Fin 256, rowOf x k q * w (ix2 q ⟨256 + (128 + (l.val - 256)), by omega⟩)) *
      (∑ q : Fin 256, rowOf x k q * w (ix2 q ⟨256 + (128 + (l.val - 256)), by omega⟩))

/-- What a row brings to the maxima. -/
def maxVal (x : (⟨2, ![100000, 256]⟩ : Shape).Idx → EReal) (w : (⟨2, ![256, 512]⟩ : Shape).Idx → EReal) (k : ℕ) (l : Fin 128) : EReal :=
  ∑ q : Fin 256, rowOf x k q * w (ix2 q ⟨256 + l.val, by omega⟩)

/-- The sums, the counts and the maxima of a segment over the first rows. -/
def segS (b : (⟨1, ![100000]⟩ : Shape).Idx → BitVec 32) (x : (⟨2, ![100000, 256]⟩ : Shape).Idx → EReal) (w : (⟨2, ![256, 512]⟩ : Shape).Idx → EReal)
    (n : ℕ) (s : ℕ) (l : Fin 384) : EReal :=
  ∑ k ∈ Finset.range n, if word b k = BitVec.ofNat 32 s then sumVal x w k l else 0

/-- The counts of a segment over the first rows. -/
def segC (b : (⟨1, ![100000]⟩ : Shape).Idx → BitVec 32) (n : ℕ) (s : ℕ) : EReal :=
  ∑ k ∈ Finset.range n, if word b k = BitVec.ofNat 32 s then (1 : EReal) else 0

/-- The maxima of a segment over the first rows. -/
def segM (b : (⟨1, ![100000]⟩ : Shape).Idx → BitVec 32) (x : (⟨2, ![100000, 256]⟩ : Shape).Idx → EReal) (w : (⟨2, ![256, 512]⟩ : Shape).Idx → EReal)
    (n : ℕ) (s : ℕ) (l : Fin 128) : EReal :=
  (Finset.range n).sup fun k => if word b k = BitVec.ofNat 32 s then maxVal x w k l else ⊥

/-- A sum over the first rows and a block after them. -/
theorem sum_block (f : ℕ → EReal) (n : ℕ) : (∑ k ∈ Finset.range (n + 512), f k) = (∑ k ∈ Finset.range n, f k) + ∑ r : Fin 512, f (n + r.val) := by
  rw [Finset.sum_range_add, Finset.sum_range (fun k => f (n + k))]

/-- A maximum over the first rows and a block after them. -/
theorem sup_block (f : ℕ → EReal) (n : ℕ) : (Finset.range (n + 512)).sup f = max ((Finset.range n).sup f) (Finset.univ.sup fun r : Fin 512 => f (n + r.val)) := by
  apply le_antisymm
  · refine Finset.sup_le fun k hk => ?_
    rw [Finset.mem_range] at hk
    by_cases h : k < n
    · exact le_max_of_le_left (Finset.le_sup (f := f) (Finset.mem_range.mpr h))
    · refine le_max_of_le_right ?_
      have e := Finset.le_sup (f := fun r : Fin 512 => f (n + r.val)) (Finset.mem_univ (⟨k - n, by omega⟩ : Fin 512))
      rwa [show n + (k - n) = k by omega] at e
  · refine max_le (Finset.sup_le fun k hk => ?_) (Finset.sup_le fun r _ => ?_)
    · exact Finset.le_sup (f := f) (Finset.mem_range.mpr (by rw [Finset.mem_range] at hk; omega))
    · exact Finset.le_sup (f := f) (Finset.mem_range.mpr (by omega))

variable (b : (⟨1, ![100000]⟩ : Shape).Idx → BitVec 32) (hr : ∀ n : Fin 100000, (b (ix1 n)).toNat < 512)
  (hm : ∀ a a' : Fin 100000, a.val ≤ a'.val → (b (ix1 a)).toNat ≤ (b (ix1 a')).toNat)

include hr hm in
/-- The words do not decrease, those past the rows included. -/
theorem word_mono (n n' : ℕ) (h : n ≤ n') : (word b n).toNat ≤ (word b n').toNat := by
  by_cases h' : n' < 100000
  · rw [word_of_lt b h', word_of_lt b (lt_of_le_of_lt h h')]; exact hm _ _ h
  · rw [word_of_ge b h']; exact word_le b hr n

include hr hm in
/-- A segment with a row in a block lies in the block's windows and among its visits. -/
theorem hit_in (n : ℕ) (r : Fin 512) (s : ℕ) (hs : s < 512) (h : word b (n + r.val) = BitVec.ofNat 32 s) :
    (baseOf (word b n) ≤ s ∧ s < baseOf (word b n) + 64 * nwin (word b n) (word b (n + 511))) ∧
    ((word b n).toNat ≤ s ∧ s < (word b n).toNat + ((hiOf (word b (n + 511)) : Int) - (word b n).toNat + 1).toNat) := by
  have e : (word b (n + r.val)).toNat = s := by rw [h, BitVec.toNat_ofNat]; omega
  have h1 := word_mono b hr hm n (n + r.val) (by omega)
  have h2 := word_mono b hr hm (n + r.val) (n + 511) (by omega)
  rw [e] at h1 h2
  have h3 : s ≤ hiOf (word b (n + 511)) := by unfold hiOf; omega
  unfold nwin baseOf
  refine ⟨⟨by omega, by omega⟩, h1, by omega⟩

include hr hm in
/-- A block's windows bring every row of the block to the sum of its segment. -/
theorem win_sum (n : ℕ) (s : ℕ) (hs : s < 512) (X : EReal) (f : ℕ → EReal) :
    (if baseOf (word b n) ≤ s ∧ s < baseOf (word b n) + 64 * nwin (word b n) (word b (n + 511)) then
      X + ∑ r : Fin 512, (if word b (n + r.val) = BitVec.ofNat 32 s then f (n + r.val) else 0) else X)
      = X + ∑ r : Fin 512, if word b (n + r.val) = BitVec.ofNat 32 s then f (n + r.val) else 0 := by
  split_ifs with h
  · rfl
  · rw [Finset.sum_eq_zero fun r _ => if_neg fun e => h (hit_in b hr hm n r s hs e).1, add_zero]

include hr hm in
/-- A block's visits bring every row of the block to the maximum of its segment. -/
theorem visit_sup (n : ℕ) (s : ℕ) (hs : s < 512) (X : EReal) (f : ℕ → EReal) :
    (if (word b n).toNat ≤ s ∧ s < (word b n).toNat + ((hiOf (word b (n + 511)) : Int) - (word b n).toNat + 1).toNat then
      max X (Finset.univ.sup fun r : Fin 512 => if word b (n + r.val) = BitVec.ofNat 32 s then f (n + r.val) else ⊥) else X)
      = max X (Finset.univ.sup fun r : Fin 512 => if word b (n + r.val) = BitVec.ofNat 32 s then f (n + r.val) else ⊥) := by
  split_ifs with h
  · rfl
  · rw [show (fun r : Fin 512 => if word b (n + r.val) = BitVec.ofNat 32 s then f (n + r.val) else (⊥ : EReal)) = fun _ => ⊥ from
      funext fun r => if_neg fun e => h (hit_in b hr hm n r s hs e).2]
    simp

variable (m : (ℓ : Loc nD τ sig) → Buf (Elt Ideal) ℓ)

/-- The arguments at a launch. -/
abbrev argB (c : Dev nD) : (⟨1, ![100000]⟩ : Shape).Idx → BitVec 32 := m ((c : Thread nD τ).loc main_arg1)
/-- The input. -/
abbrev argX (c : Dev nD) : (⟨2, ![100000, 256]⟩ : Shape).Idx → EReal := m ((c : Thread nD τ).loc main_arg0)
/-- The aggregation weights. -/
abbrev argW (c : Dev nD) : (⟨2, ![256, 512]⟩ : Shape).Idx → EReal := m ((c : Thread nD τ).loc main_arg2)

/-- The first and the last word of a point's block. -/
theorem fst_word (c : Dev nD) (t : Fin cfg0.N) : fstW (ms0_0 t) (hs0_0 t) (iblk m c 0 t) = word (argB m c) (512 * t.val) :=
  readWord m c t 0 inb_S1x1x512_S1x1x1_0_0_0

/-- A block's last word. -/
theorem lst_word (c : Dev nD) (t : Fin cfg0.N) : lstW (ms0_0 t) (hs0_0 t) (iblk m c 0 t) = word (argB m c) (512 * t.val + 511) :=
  readWord m c t 511 inb_S1x1x512_S1x1x1_0_0_511

/-- What the blocks of a point bring to the sums and to the maxima. -/
theorem val12 (c : Dev nD) (t : Fin cfg0.N) (r : Fin 512) (l : Fin 384) :
    (k0_pay12 (F := Ideal) (iblk m c 1 t) (iblk m c 4 t) (ix2 r l) : EReal) = sumVal (argX m c) (argW m c) (512 * t.val + r.val) l := by
  refine (pay12_apply (iblk m c 1 t) (iblk m c 4 t) r l).trans ?_
  unfold sumVal
  simp only [iblk1, iblk4]

/-- What a row of a block brings to the maxima. -/
theorem val9 (c : Dev nD) (t : Fin cfg0.N) (r : Fin 512) (l : Fin 128) :
    (k0_pay9 (F := Ideal) (iblk m c 1 t) (iblk m c 4 t) (ix2 r l) : EReal) = maxVal (argX m c) (argW m c) (512 * t.val + r.val) l := by
  refine (pay9_apply (iblk m c 1 t) (iblk m c 4 t) r l).trans ?_
  unfold maxVal
  simp only [iblk1, iblk4]

/-- A point's first word is a segment's. -/
theorem fst_lt (c : Dev nD) (hr : ∀ n : Fin 100000, (argB m c (ix1 n)).toNat < 512) (t : Fin cfg0.N) :
    (fstW (ms0_0 t) (hs0_0 t) (iblk m c 0 t)).toNat < 512 := by
  have hN : cfg0.N = 196 := N_0
  have ht := t.isLt
  rw [fst_word, word_of_lt _ (by omega)]; exact hr _

/-- A block's last word is at most 512. -/
theorem lst_le (c : Dev nD) (hr : ∀ n : Fin 100000, (argB m c (ix1 n)).toNat < 512) (t : Fin cfg0.N) :
    (lstW (ms0_0 t) (hs0_0 t) (iblk m c 0 t)).toNat ≤ 512 := by
  rw [lst_word]; exact word_le _ hr _

/-- A point on the sums, the counts and the maxima. -/
theorem point_sum (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (s : Fin 640) (hs : s.val < 512) (l : Fin 384) (X : EReal) (hX : X = segS (argB m c) (argX m c) (argW m c) (512 * t.val) s.val l) :
    (if baseOf (fstW (ms0_0 t) (hs0_0 t) (iblk m c 0 t)) ≤ s.val ∧ s.val < baseOf (fstW (ms0_0 t) (hs0_0 t) (iblk m c 0 t))
          + 64 * nwin (fstW (ms0_0 t) (hs0_0 t) (iblk m c 0 t)) (lstW (ms0_0 t) (hs0_0 t) (iblk m c 0 t)) then
        X + ∑ r : Fin 512, (if iblk m c 2 t (ix3 0 0 r) = BitVec.ofNat 32 s.val then (k0_pay12 (F := Ideal) (iblk m c 1 t) (iblk m c 4 t) (ix2 r l) : EReal) else 0)
      else X) = segS (argB m c) (argX m c) (argW m c) (512 * (t.val + 1)) s.val l := by
  rw [fst_word, lst_word]
  refine (if_congr Iff.rfl (congrArg (X + ·) (Finset.sum_congr rfl fun r _ =>
    if_congr (Iff.of_eq (congrArg (· = BitVec.ofNat 32 s.val) (iblk2 m c t r))) (val12 m c t r l) rfl)) rfl).trans ?_
  rw [win_sum (argB m c) hr hm (512 * t.val) s.val hs X (fun k => sumVal (argX m c) (argW m c) k l), hX]
  unfold segS
  rw [show 512 * (t.val + 1) = 512 * t.val + 512 by ring, sum_block]

/-- … its counts. -/
theorem point_cnt (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (s : Fin 640) (hs : s.val < 512) (X : EReal) (hX : X = segC (argB m c) (512 * t.val) s.val) :
    (if baseOf (fstW (ms0_0 t) (hs0_0 t) (iblk m c 0 t)) ≤ s.val ∧ s.val < baseOf (fstW (ms0_0 t) (hs0_0 t) (iblk m c 0 t))
          + 64 * nwin (fstW (ms0_0 t) (hs0_0 t) (iblk m c 0 t)) (lstW (ms0_0 t) (hs0_0 t) (iblk m c 0 t)) then
        X + ∑ r : Fin 512, (if iblk m c 2 t (ix3 0 0 r) = BitVec.ofNat 32 s.val then (1 : EReal) else 0)
      else X) = segC (argB m c) (512 * (t.val + 1)) s.val := by
  rw [fst_word, lst_word]
  refine (if_congr Iff.rfl (congrArg (X + ·) (Finset.sum_congr rfl fun r _ =>
    if_congr (Iff.of_eq (congrArg (· = BitVec.ofNat 32 s.val) (iblk2 m c t r))) rfl rfl)) rfl).trans ?_
  rw [win_sum (argB m c) hr hm (512 * t.val) s.val hs X (fun _ => 1), hX]
  unfold segC
  rw [show 512 * (t.val + 1) = 512 * t.val + 512 by ring, sum_block]

/-- … its maxima. -/
theorem point_max (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (s : Fin 512) (l : Fin 128) (X : EReal) (hX : X = segM (argB m c) (argX m c) (argW m c) (512 * t.val) s.val l) :
    (if (fstW (ms0_0 t) (hs0_0 t) (iblk m c 0 t)).toNat ≤ s.val ∧ s.val < (fstW (ms0_0 t) (hs0_0 t) (iblk m c 0 t)).toNat
          + ((hiOf (lstW (ms0_0 t) (hs0_0 t) (iblk m c 0 t)) : Int) - (fstW (ms0_0 t) (hs0_0 t) (iblk m c 0 t)).toNat + 1).toNat then
        max X (Finset.univ.sup fun r : Fin 512 => if iblk m c 3 t (ix3 0 r 0) = BitVec.ofNat 32 s.val then (k0_pay9 (F := Ideal) (iblk m c 1 t) (iblk m c 4 t) (ix2 r l) : EReal) else ⊥)
      else X) = segM (argB m c) (argX m c) (argW m c) (512 * (t.val + 1)) s.val l := by
  rw [fst_word, lst_word]
  refine (if_congr Iff.rfl (congrArg (max X) (Finset.sup_congr rfl fun r _ =>
    if_congr (Iff.of_eq (congrArg (· = BitVec.ofNat 32 s.val) (iblk3 m c t r))) (val9 m c t r l) rfl)) rfl).trans ?_
  rw [visit_sup (argB m c) hr hm (512 * t.val) s.val s.isLt X (fun k => maxVal (argX m c) (argW m c) k l), hX]
  unfold segM
  rw [show 512 * (t.val + 1) = 512 * t.val + 512 by ring, sup_block]

/-- What the three arrays hold after a point. -/
def After (c : Dev nD) (n : ℕ) (o : Vec Ideal S512x256 .f32 × Vec Ideal S640x384 .f32 × Vec Ideal S512x128 .f32 × Vec Ideal S640x1 .f32) : Prop :=
  (∀ (s : Fin 640) (l : Fin 384), s.val < 512 → (o.2.1 (ix2 s l) : EReal) = segS (argB m c) (argX m c) (argW m c) (512 * (n + 1)) s.val l) ∧
  (∀ s : Fin 640, s.val < 512 → (o.2.2.2 (ix2 s 0) : EReal) = segC (argB m c) (512 * (n + 1)) s.val) ∧
  (∀ (s : Fin 512) (l : Fin 128), (o.2.2.1 (ix2 s l) : EReal) = segM (argB m c) (argX m c) (argW m c) (512 * (n + 1)) s.val l)

/-- A part of a point's four arrays. -/
theorem part2 {A B C D : Type} {o : A × B × C × D} {a : A} {b : B} {c : C} {d : D} (h : o = (a, b, c, d)) : o.2.1 = b := by subst h; rfl
/-- The third part of a tuple. -/
theorem part3 {A B C D : Type} {o : A × B × C × D} {a : A} {b : B} {c : C} {d : D} (h : o = (a, b, c, d)) : o.2.2.1 = c := by subst h; rfl
/-- The fourth part of a tuple. -/
theorem part4 {A B C D : Type} {o : A × B × C × D} {a : A} {b : B} {c : C} {d : D} (h : o = (a, b, c, d)) : o.2.2.2 = d := by subst h; rfl

/-- What each kind of point leaves. -/
theorem after_sum_A (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : t.val % 196 = 0) (h1 : ¬t.val % 196 = 195) (hz : 512 * t.val = 0) (s : Fin 640) (l : Fin 384) (hs : s.val < 512) :
    ((outsAt0 m hH c t.val t.isLt).2.1 (ix2 s l) : EReal) = segS (argB m c) (argX m c) (argW m c) (512 * (t.val + 1)) s.val l :=
  (congrFun (part2 (outsAt0_A m hH c t h0 h1)) (ix2 s l)).trans
    ((sum_A _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ (fst_lt m c hr t) (lst_le m c hr t) s l).trans
      (point_sum m c hr hm t s hs l 0 (by simp only [segS, hz]; rfl)))

/-- The counts after the first point. -/
theorem after_cnt_A (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : t.val % 196 = 0) (h1 : ¬t.val % 196 = 195) (hz : 512 * t.val = 0) (s : Fin 640) (hs : s.val < 512) :
    ((outsAt0 m hH c t.val t.isLt).2.2.2 (ix2 s 0) : EReal) = segC (argB m c) (512 * (t.val + 1)) s.val :=
  (congrFun (part4 (outsAt0_A m hH c t h0 h1)) (ix2 s 0)).trans
    ((cnt_A _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ (fst_lt m c hr t) (lst_le m c hr t) s).trans
      (point_cnt m c hr hm t s hs 0 (by simp only [segC, hz]; rfl)))

/-- The maxima after the first point. -/
theorem after_max_A (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : t.val % 196 = 0) (h1 : ¬t.val % 196 = 195) (hz : 512 * t.val = 0) (s : Fin 512) (l : Fin 128) :
    ((outsAt0 m hH c t.val t.isLt).2.2.1 (ix2 s l) : EReal) = segM (argB m c) (argX m c) (argW m c) (512 * (t.val + 1)) s.val l :=
  (congrFun (part3 (outsAt0_A m hH c t h0 h1)) (ix2 s l)).trans
    ((max_A _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ (fst_lt m c hr t) (lst_le m c hr t) s l).trans
      (point_max m c hr hm t s l ⊥ (by simp only [segM, hz]; rfl)))

/-- The sums after a point between. -/
theorem after_sum_B (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : ¬t.val % 196 = 0) (h1 : ¬t.val % 196 = 195) (hp : t.val - 1 < cfg0.N) (ht : 512 * (t.val - 1 + 1) = 512 * t.val) (ih : After m c (t.val - 1) (outsAt0 m hH c (t.val - 1) hp)) (s : Fin 640) (l : Fin 384) (hs : s.val < 512) :
    ((outsAt0 m hH c t.val t.isLt).2.1 (ix2 s l) : EReal) = segS (argB m c) (argX m c) (argW m c) (512 * (t.val + 1)) s.val l :=
  (congrFun (part2 (outsAt0_B m hH c t h0 h1)) (ix2 s l)).trans
    ((sum_B _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (fst_lt m c hr t) (lst_le m c hr t) s l).trans
      (point_sum m c hr hm t s hs l _ ((ih.1 s l hs).trans (by rw [ht]))))

/-- The counts after a point between. -/
theorem after_cnt_B (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : ¬t.val % 196 = 0) (h1 : ¬t.val % 196 = 195) (hp : t.val - 1 < cfg0.N) (ht : 512 * (t.val - 1 + 1) = 512 * t.val) (ih : After m c (t.val - 1) (outsAt0 m hH c (t.val - 1) hp)) (s : Fin 640) (hs : s.val < 512) :
    ((outsAt0 m hH c t.val t.isLt).2.2.2 (ix2 s 0) : EReal) = segC (argB m c) (512 * (t.val + 1)) s.val :=
  (congrFun (part4 (outsAt0_B m hH c t h0 h1)) (ix2 s 0)).trans
    ((cnt_B _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (fst_lt m c hr t) (lst_le m c hr t) s).trans
      (point_cnt m c hr hm t s hs _ ((ih.2.1 s hs).trans (by rw [ht]))))

/-- The maxima after a point between. -/
theorem after_max_B (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : ¬t.val % 196 = 0) (h1 : ¬t.val % 196 = 195) (hp : t.val - 1 < cfg0.N) (ht : 512 * (t.val - 1 + 1) = 512 * t.val) (ih : After m c (t.val - 1) (outsAt0 m hH c (t.val - 1) hp)) (s : Fin 512) (l : Fin 128) :
    ((outsAt0 m hH c t.val t.isLt).2.2.1 (ix2 s l) : EReal) = segM (argB m c) (argX m c) (argW m c) (512 * (t.val + 1)) s.val l :=
  (congrFun (part3 (outsAt0_B m hH c t h0 h1)) (ix2 s l)).trans
    ((max_B _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (fst_lt m c hr t) (lst_le m c hr t) s l).trans
      (point_max m c hr hm t s l _ ((ih.2.2 s l).trans (by rw [ht]))))

/-- The sums after the last point. -/
theorem after_sum_C (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : ¬t.val % 196 = 0) (h1 : t.val % 196 = 195) (hp : t.val - 1 < cfg0.N) (ht : 512 * (t.val - 1 + 1) = 512 * t.val) (ih : After m c (t.val - 1) (outsAt0 m hH c (t.val - 1) hp)) (s : Fin 640) (l : Fin 384) (hs : s.val < 512) :
    ((outsAt0 m hH c t.val t.isLt).2.1 (ix2 s l) : EReal) = segS (argB m c) (argX m c) (argW m c) (512 * (t.val + 1)) s.val l :=
  (congrFun (part2 (outsAt0_C m hH c t h0 h1)) (ix2 s l)).trans
    ((sum_C _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (fst_lt m c hr t) (lst_le m c hr t) s l).trans
      (point_sum m c hr hm t s hs l _ ((ih.1 s l hs).trans (by rw [ht]))))

/-- The counts after the last point. -/
theorem after_cnt_C (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : ¬t.val % 196 = 0) (h1 : t.val % 196 = 195) (hp : t.val - 1 < cfg0.N) (ht : 512 * (t.val - 1 + 1) = 512 * t.val) (ih : After m c (t.val - 1) (outsAt0 m hH c (t.val - 1) hp)) (s : Fin 640) (hs : s.val < 512) :
    ((outsAt0 m hH c t.val t.isLt).2.2.2 (ix2 s 0) : EReal) = segC (argB m c) (512 * (t.val + 1)) s.val :=
  (congrFun (part4 (outsAt0_C m hH c t h0 h1)) (ix2 s 0)).trans
    ((cnt_C _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (fst_lt m c hr t) (lst_le m c hr t) s).trans
      (point_cnt m c hr hm t s hs _ ((ih.2.1 s hs).trans (by rw [ht]))))

/-- The maxima after the last point. -/
theorem after_max_C (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (h0 : ¬t.val % 196 = 0) (h1 : t.val % 196 = 195) (hp : t.val - 1 < cfg0.N) (ht : 512 * (t.val - 1 + 1) = 512 * t.val) (ih : After m c (t.val - 1) (outsAt0 m hH c (t.val - 1) hp)) (s : Fin 512) (l : Fin 128) :
    ((outsAt0 m hH c t.val t.isLt).2.2.1 (ix2 s l) : EReal) = segM (argB m c) (argX m c) (argW m c) (512 * (t.val + 1)) s.val l :=
  (congrFun (part3 (outsAt0_C m hH c t h0 h1)) (ix2 s l)).trans
    ((max_C _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ (fst_lt m c hr t) (lst_le m c hr t) s l).trans
      (point_max m c hr hm t s l _ ((ih.2.2 s l).trans (by rw [ht]))))

/-- After every point, the arrays hold the sums, the counts and the maxima over the rows so far. -/
theorem after (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat) (n : ℕ) (hn : n < cfg0.N) :
    After m c n (outsAt0 m hH c n hn) := by
  have hN : cfg0.N = 196 := N_0
  induction n with
  | zero =>
    exact ⟨fun s l hs => after_sum_A m hH c hr hm ⟨0, hn⟩ (by rfl) (by show ¬0 % 196 = 195; decide) rfl s l hs,
      fun s hs => after_cnt_A m hH c hr hm ⟨0, hn⟩ (by rfl) (by show ¬0 % 196 = 195; decide) rfl s hs,
      fun s l => after_max_A m hH c hr hm ⟨0, hn⟩ (by rfl) (by show ¬0 % 196 = 195; decide) rfl s l⟩
  | succ n ih =>
    have ih' := ih (by omega)
    have h0 : ¬(n + 1) % 196 = 0 := by omega
    by_cases h1 : (n + 1) % 196 = 195
    · exact ⟨fun s l hs => after_sum_C m hH c hr hm ⟨n + 1, hn⟩ h0 h1 (by omega) rfl ih' s l hs,
        fun s hs => after_cnt_C m hH c hr hm ⟨n + 1, hn⟩ h0 h1 (by omega) rfl ih' s hs,
        fun s l => after_max_C m hH c hr hm ⟨n + 1, hn⟩ h0 h1 (by omega) rfl ih' s l⟩
    · exact ⟨fun s l hs => after_sum_B m hH c hr hm ⟨n + 1, hn⟩ h0 h1 (by omega) rfl ih' s l hs,
        fun s hs => after_cnt_B m hH c hr hm ⟨n + 1, hn⟩ h0 h1 (by omega) rfl ih' s hs,
        fun s l => after_max_B m hH c hr hm ⟨n + 1, hn⟩ h0 h1 (by omega) rfl ih' s l⟩

end Cert.KernelIdeal.Own
-- ==== Proof.Own.Result.lean ====
/- The result array at the end of the call: its entries as functions of the arguments. -/
module

public import proofs.«01_k».proof.Proof.Own.Running
public import proofs.«01_k».proof.Proof.Gen.KernelIdeal.Value

@[expose] public section

noncomputable section

namespace Cert.KernelIdeal.Own

open Cert.KernelIdeal Cert.KernelIdeal.Gen Cert.Own
open Idealize.ShloMosaic Idealize.ShloMosaic.TcCoe

/-- A segment's sum of rows times a column of the aggregation weights. -/
def rowDot (b : (⟨1, ![100000]⟩ : Shape).Idx → BitVec 32) (x : (⟨2, ![100000, 256]⟩ : Shape).Idx → EReal) (w : (⟨2, ![256, 512]⟩ : Shape).Idx → EReal)
    (s : ℕ) (col : Fin 512) : EReal :=
  ∑ q : Fin 256, segS b x w 100352 s ⟨q.val, by omega⟩ * w (ix2 q col)

/-- What the call leaves at an entry of the result. -/
def kOut (b : (⟨1, ![100000]⟩ : Shape).Idx → BitVec 32) (x : (⟨2, ![100000, 256]⟩ : Shape).Idx → EReal) (w : (⟨2, ![256, 512]⟩ : Shape).Idx → EReal)
    (wo : (⟨2, ![512, 256]⟩ : Shape).Idx → EReal) (bo : (⟨1, ![256]⟩ : Shape).Idx → EReal) (s : Fin 512) (o : Fin 256) : EReal :=
  (∑ z : Fin 512, joined
    (fun j => rowDot b x w s.val ⟨j.val, by omega⟩)
    (fun j => rowDot b x w s.val ⟨128 + j.val, by omega⟩ * invc (segC b 100352 s.val))
    (fun j => keepFin (segM b x w 100352 s.val j))
    (fun j => stdOf (segS b x w 100352 s.val ⟨256 + j.val, by omega⟩ * invc (segC b 100352 s.val))
      (rowDot b x w s.val ⟨384 + j.val, by omega⟩ * invc (segC b 100352 s.val) * (rowDot b x w s.val ⟨384 + j.val, by omega⟩ * invc (segC b 100352 s.val))))
    z * wo (ix2 z o)) + bo (ix1 o)

/-- Rows of a taller array, read from its top. -/
theorem top_rows (X : Vec Ideal S640x384 .f32) (inb) (s : Fin 512) (l : Fin 384) :
    View.ld X (Rect.unit (s := S640x384) ![0, 0] S512x384.size inb) (ix2 s l) = X (ix2 ⟨s.val, by omega⟩ l) := by
  refine View.ld_unit_apply_of X _ _ _ (ix2 s l) (ix2 ⟨s.val, by omega⟩ l) fun a => ?_
  match a with
  | ⟨0, _⟩ => show s.val = 0 + s.val; omega
  | ⟨1, _⟩ => show l.val = 0 + l.val; omega

/-- Counts of a taller array, read from its top. -/
theorem top_counts (X : Vec Ideal S640x1 .f32) (inb) (s : Fin 512) :
    View.ld X (Rect.unit (s := S640x1) ![0, 0] S512x1.size inb) (ix2 s 0) = X (ix2 ⟨s.val, by omega⟩ 0) := by
  refine View.ld_unit_apply_of X _ _ _ (ix2 s 0) (ix2 ⟨s.val, by omega⟩ 0) fun a => ?_
  match a with
  | ⟨0, _⟩ => show s.val = 0 + s.val; omega
  | ⟨1, _⟩ => rfl

variable (m : (ℓ : Loc nD τ sig) → Buf (Elt Ideal) ℓ)

/-- The output weights. -/
abbrev argWo (c : Dev nD) : (⟨2, ![512, 256]⟩ : Shape).Idx → EReal := m ((c : Thread nD τ).loc main_arg3)
/-- The output bias. -/
abbrev argBo (c : Dev nD) : (⟨1, ![256]⟩ : Shape).Idx → EReal := m ((c : Thread nD τ).loc main_arg4)

/-- The first part of a tuple. -/
theorem part1 {A B C D : Type} {o : A × B × C × D} {a : A} {b : B} {c : C} {d : D} (h : o = (a, b, c, d)) : o.1 = a := by subst h; rfl

/-- The last point's result block, from the arrays it leaves. -/
theorem out_last (hH : Hyps m) (c : Dev nD) (t : Fin cfg0.N) (h0 : ¬t.val % 196 = 0) (h1 : t.val % 196 = 195) :
    (outsAt0 m hH c t.val t.isLt).1 = k0_pay3 (F := Ideal)
      (View.ld (outsAt0 m hH c t.val t.isLt).2.1 (Rect.unit (s := S640x384) ![0, 0] S512x384.size inb_S640x384_S512x384_0_0))
      (View.ld (outsAt0 m hH c t.val t.isLt).2.2.2 (Rect.unit (s := S640x1) ![0, 0] S512x1.size inb_S640x1_S512x1_0_0))
      (iblk m c 5 t) (outsAt0 m hH c t.val t.isLt).2.2.1 (iblk m c 6 t) (iblk m c 7 t) :=
  ((part1 (outsAt0_C m hH c t h0 h1)).trans (out_C _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _)).trans
    (pay3_congr (congrArg (fun X => View.ld X _) (part2 (outsAt0_C m hH c t h0 h1)).symm)
      (congrArg (fun X => View.ld X _) (part4 (outsAt0_C m hH c t h0 h1)).symm) rfl (part3 (outsAt0_C m hH c t h0 h1)).symm rfl rfl)

/-- The last point's result at an entry. -/
theorem last_apply (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (ht : t.val = 195) (s : Fin 512) (o : Fin 256) :
    ((outsAt0 m hH c t.val t.isLt).1 (ix2 s o) : EReal) = kOut (argB m c) (argX m c) (argW m c) (argWo m c) (argBo m c) s o := by
  obtain ⟨a1, a2, a3⟩ := after m hH c hr hm t.val t.isLt
  rw [show 512 * (t.val + 1) = 100352 by omega] at a1 a2 a3
  refine (congrFun (out_last m hH c t (by omega) (by omega)) (ix2 s o)).trans ?_
  refine (pay3_apply _ _ (iblk m c 5 t) _ (iblk m c 6 t) (iblk m c 7 t) s o).trans ?_
  have e1 : ∀ l : Fin 384, (View.ld (outsAt0 m hH c t.val t.isLt).2.1 (Rect.unit (s := S640x384) ![0, 0] S512x384.size inb_S640x384_S512x384_0_0) (ix2 s l) : EReal)
      = segS (argB m c) (argX m c) (argW m c) 100352 s.val l := fun l => (top_rows _ _ s l).trans (a1 ⟨s.val, by omega⟩ l s.isLt)
  have e2 : (View.ld (outsAt0 m hH c t.val t.isLt).2.2.2 (Rect.unit (s := S640x1) ![0, 0] S512x1.size inb_S640x1_S512x1_0_0) (ix2 s 0) : EReal)
      = segC (argB m c) 100352 s.val := (top_counts _ _ s).trans (a2 ⟨s.val, by omega⟩ s.isLt)
  have e5 : ∀ (q : Fin 256) (b : Fin 384) (b' : Fin 512) (h : b'.val = if b.val < 256 then b.val else b.val + 128),
      (iblk m c 5 t (ix2 q b) : EReal) = argW m c (ix2 q b') := fun q b b' h =>
    (iblk5 m c t q b).trans (congrArg (fun z => argW m c (ix2 q z)) (Fin.ext h.symm))
  have ed : ∀ (l : Fin 384) (b' : Fin 512) (h : b'.val = if l.val < 256 then l.val else l.val + 128),
      (∑ q : Fin 256, (View.ld (outsAt0 m hH c t.val t.isLt).2.1 (Rect.unit (s := S640x384) ![0, 0] S512x384.size inb_S640x384_S512x384_0_0) (ix2 s ⟨q.val, by omega⟩) : EReal)
        * (iblk m c 5 t (ix2 q l) : EReal)) = rowDot (argB m c) (argX m c) (argW m c) s.val b' := fun l b' h =>
    Finset.sum_congr rfl fun q _ => congrArg₂ (· * ·) (e1 _) (e5 q l b' h)
  unfold kOut
  refine congrArg₂ (· + ·) (Finset.sum_congr rfl fun z _ => congrArg₂ (· * ·) ?_ (iblk6 m c t z o)) (iblk7 m c t o)
  refine congrFun (joined_congr (funext fun j => ?_) (funext fun j => ?_) (funext fun j => ?_) (funext fun j => ?_)) z
  · exact ed ⟨j.val, by omega⟩ ⟨j.val, by omega⟩ (by rw [if_pos]; show j.val < 256; omega)
  · exact congrArg₂ (· * ·) (ed ⟨128 + j.val, by omega⟩ ⟨128 + j.val, by omega⟩ (by rw [if_pos]; show 128 + j.val < 256; omega)) (congrArg invc e2)
  · exact congrArg keepFin (a3 s j)
  · have e := congrArg₂ (· * ·) (ed ⟨256 + j.val, by omega⟩ ⟨384 + j.val, by omega⟩
      (by rw [if_neg]; · show 384 + j.val = 256 + j.val + 128; omega
          · show ¬256 + j.val < 256; omega)) (congrArg invc e2)
    exact congrArg₂ stdOf (congrArg₂ (· * ·) (e1 ⟨256 + j.val, by omega⟩) (congrArg invc e2)) (congrArg₂ (· * ·) e e)

/-- What the result array holds at the end. -/
def result (c : Dev nD) : (⟨S512x256, .f32⟩ : BufTy).Contents (Elt Ideal) := fun i =>
  kOut (argB m c) (argX m c) (argW m c) (argWo m c) (argBo m c) ⟨(i 0).val, (i 0).isLt⟩ ⟨(i 1).val, (i 1).isLt⟩

/-- The result at an entry. -/
theorem result_ix2 (c : Dev nD) (s : Fin 512) (o : Fin 256) : result m c (ix2 s o) = kOut (argB m c) (argX m c) (argW m c) (argWo m c) (argBo m c) s o := rfl

/-- Where the result's block lies. -/
theorem idx8 : ∀ t : Fin cfg0.N, win0_8.index t 0 * win0_8.size 0 = 0 ∧ win0_8.index t 1 * win0_8.size 1 = 0 := by decide +kernel

/-- The one block written back is the result. -/
theorem flushed_eq (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat)
    (t : Fin cfg0.N) (hf : (cfg0.win 8).flush t = true) :
    (dats m hH 0 c).flushed 8 t = ((cfg0.win 8).blk t).view.read (Elt Ideal) (result m c) := by
  have hN : cfg0.N = 196 := N_0
  have h3 : t.val = 195 := by have := (flush0_8 t).mp hf; have := t.isLt; omega
  have e : (outsAt0 m hH c t.val t.isLt).1 = result m c := by
    funext i
    idx_vars i
    exact last_apply m hH c hr hm t h3 _ _
  show (cfg0.win 8).cut (grid0.coords t) ((dats m hH 0 c).after 8 t) = _
  rw [after0_8, e]
  have hz' : (fun a => win0_8.index t a * main_v10.ty.shape.size a) = fun _ => 0 := funext fun a => by
    match a with
    | ⟨0, _⟩ => exact (idx8 t).1
    | ⟨1, _⟩ => exact (idx8 t).2
  exact (Memref.read_access_unit_zero (Elt Ideal) main_v10 hz' (fun a => by rw [congrFun hz' a]; simp) (result m c)).symm

/-- The last grid point. -/
def tLast : Fin cfg0.N := ⟨195, lt_of_lt_of_eq (by decide : 195 < 196) N_0.symm⟩

/-- The result array at the end of the call. -/
theorem final_o (hH : Hyps m) (c : Dev nD) (hr : ∀ n : Fin 100000, (argB m c (ix1 n)).toNat < 512)
    (hm : ∀ a a' : Fin 100000, a.val ≤ a'.val → (argB m c (ix1 a)).toNat ≤ (argB m c (ix1 a')).toNat) :
    (dats m hH 0 c).arrAt 8 cfg0.N = result m c :=
  (dats m hH 0 c).arrAt_eq_of_cover 8 (result m c) (flushed_eq m hH c hr hm) fun i =>
    ⟨tLast, (flush0_8 tLast).mpr rfl, by
      show i ∈ ((View.whole main_v10).slice (win0_8.rect tLast)).set
      rw [View.set_slice_whole, Rect.mem_set_unit]
      intro a
      have h0 : (i 0 : Nat) < 512 := (i 0).isLt
      have h1 : (i 1 : Nat) < 256 := (i 1).isLt
      have e := idx8 tLast
      match a with
      | ⟨0, _⟩ =>
        show win0_8.index tLast 0 * win0_8.size 0 ≤ (i 0 : Nat) ∧ (i 0 : Nat) < win0_8.index tLast 0 * win0_8.size 0 + 512
        rw [e.1]; omega
      | ⟨1, _⟩ =>
        show win0_8.index tLast 1 * win0_8.size 1 ≤ (i 1 : Nat) ∧ (i 1 : Nat) < win0_8.index tLast 1 * win0_8.size 1 + 256
        rw [e.2]; omega⟩

end Cert.KernelIdeal.Own
-- ==== Proof.Own.Scatter.lean ====
/- How the reference's sums over the rows, its maxima and its joined columns read at an entry. -/
module

public import proofs.«01_k».proof.Proof.Own.Payloads
public import proofs.«01_k».proof.Proof.Gen.ReferenceIdeal.Read
public import Idealize.ShloMosaic.Lib.Routing.OpsPair

@[expose] public section

noncomputable section

namespace Cert.ReferenceIdeal.Own

open Cert.ReferenceIdeal Cert.ReferenceIdeal.Gen Cert.Own
open Idealize.ShloMosaic Idealize.ShloMosaic.TcCoe

/-- Where a row of an update lands: at the segment its word names, in its own column. -/
theorem lands_wide (idx : IVec S100000x1 32) (k : Fin 100000) (l' l : Fin 128) (s : Fin 512) :
    scatter_S512x128_S100000x1_S100000x128_1_0_0_1.resultIdx? (ix2 k l') idx = some (ix2 s l) ↔ (idx (ix2 k 0)).toInt = (s.val : Int) ∧ l' = l := by
  refine (Routing.resultIdx?_ix2 scatter_S512x128_S100000x1_S100000x128_1_0_0_1 (ix2 k l') idx s l).trans ?_
  have e0 : scatter_S512x128_S100000x1_S100000x128_1_0_0_1.start (ix2 k l') idx 0 = (idx (ix2 k 0)).toInt := by
    refine congrArg (fun i => (idx i).toInt) (funext fun a => ?_)
    match a with
    | ⟨0, _⟩ => rfl
    | ⟨1, _⟩ => rfl
  have w0 : scatter_S512x128_S100000x1_S100000x128_1_0_0_1.window (ix2 k l') 0 = 0 := rfl
  have e1 : scatter_S512x128_S100000x1_S100000x128_1_0_0_1.start (ix2 k l') idx 1 = 0 := rfl
  have w1 : scatter_S512x128_S100000x1_S100000x128_1_0_0_1.window (ix2 k l') 1 = l'.val := rfl
  rw [e0, w0, e1, w1]
  refine and_congr (by simp) ?_
  rw [Fin.ext_iff]
  omega

/-- Where an update of one column lands. -/
theorem lands_one (idx : IVec S100000x1 32) (k : Fin 100000) (l' l : Fin 1) (s : Fin 512) :
    scatter_S512x1_S100000x1_S100000x1_1_0_0_1.resultIdx? (ix2 k l') idx = some (ix2 s l) ↔ (idx (ix2 k 0)).toInt = (s.val : Int) ∧ l' = l := by
  refine (Routing.resultIdx?_ix2 scatter_S512x1_S100000x1_S100000x1_1_0_0_1 (ix2 k l') idx s l).trans ?_
  have e0 : scatter_S512x1_S100000x1_S100000x1_1_0_0_1.start (ix2 k l') idx 0 = (idx (ix2 k 0)).toInt := by
    refine congrArg (fun i => (idx i).toInt) (funext fun a => ?_)
    match a with
    | ⟨0, _⟩ => rfl
    | ⟨1, _⟩ => rfl
  have w0 : scatter_S512x1_S100000x1_S100000x1_1_0_0_1.window (ix2 k l') 0 = 0 := rfl
  have e1 : scatter_S512x1_S100000x1_S100000x1_1_0_0_1.start (ix2 k l') idx 1 = 0 := rfl
  have w1 : scatter_S512x1_S100000x1_S100000x1_1_0_0_1.window (ix2 k l') 1 = l'.val := rfl
  rw [e0, w0, e1, w1]
  refine and_congr (by simp) ?_
  rw [Fin.ext_iff]
  omega

/-- A sum of rows into segments, at an entry. -/
theorem scatter_wide (z : Vec Ideal S512x128 .f32) (idx : IVec S100000x1 32) (upd : Vec Ideal S100000x128 .f32) (s : Fin 512) (l : Fin 128) :
    (Host.scatterAdd (F := Ideal) (φ := .f32) scatter_S512x128_S100000x1_S100000x128_1_0_0_1 z idx upd (ix2 s l) : EReal) =
      z (ix2 s l) + ∑ k : Fin 100000, if (idx (ix2 k 0)).toInt = (s.val : Int) then (upd (ix2 k l) : EReal) else 0 := by
  show (z (ix2 s l) : EReal) + ∑ j ∈ Finset.univ.filter (fun j => scatter_S512x128_S100000x1_S100000x128_1_0_0_1.resultIdx? j idx = some (ix2 s l)), (upd j : EReal) = _
  refine congrArg (z (ix2 s l) + ·) ?_
  rw [Finset.sum_filter]
  refine (ValueIdx.sum_idx2 (n0 := 100000) (n1 := 128) fun j => if scatter_S512x128_S100000x1_S100000x128_1_0_0_1.resultIdx? j idx = some (ix2 s l) then (upd j : EReal) else 0).trans ?_
  refine Finset.sum_congr rfl fun k _ => ?_
  refine (Finset.sum_congr rfl fun l' _ => if_congr (lands_wide idx k l' l s) rfl rfl).trans ?_
  by_cases h : (idx (ix2 k 0)).toInt = (s.val : Int)
  · rw [if_pos h]
    refine (Finset.sum_eq_single l (fun l' _ hl => if_neg fun e => hl e.2) (fun e => absurd (Finset.mem_univ l) e)).trans (if_pos ⟨h, rfl⟩)
  · rw [if_neg h]
    exact Finset.sum_eq_zero fun l' _ => if_neg fun e => h e.1

/-- A sum of one column into segments, at an entry. -/
theorem scatter_one (z : Vec Ideal S512x1 .f32) (idx : IVec S100000x1 32) (upd : Vec Ideal S100000x1 .f32) (s : Fin 512) (l : Fin 1) :
    (Host.scatterAdd (F := Ideal) (φ := .f32) scatter_S512x1_S100000x1_S100000x1_1_0_0_1 z idx upd (ix2 s l) : EReal) =
      z (ix2 s l) + ∑ k : Fin 100000, if (idx (ix2 k 0)).toInt = (s.val : Int) then (upd (ix2 k l) : EReal) else 0 := by
  show (z (ix2 s l) : EReal) + ∑ j ∈ Finset.univ.filter (fun j => scatter_S512x1_S100000x1_S100000x1_1_0_0_1.resultIdx? j idx = some (ix2 s l)), (upd j : EReal) = _
  refine congrArg (z (ix2 s l) + ·) ?_
  rw [Finset.sum_filter]
  refine (ValueIdx.sum_idx2 (n0 := 100000) (n1 := 1) fun j => if scatter_S512x1_S100000x1_S100000x1_1_0_0_1.resultIdx? j idx = some (ix2 s l) then (upd j : EReal) else 0).trans ?_
  refine Finset.sum_congr rfl fun k _ => ?_
  refine (Finset.sum_congr rfl fun l' _ => if_congr (lands_one idx k l' l s) rfl rfl).trans ?_
  by_cases h : (idx (ix2 k 0)).toInt = (s.val : Int)
  · rw [if_pos h]
    refine (Finset.sum_eq_single l (fun l' _ hl => if_neg fun e => hl e.2) (fun e => absurd (Finset.mem_univ l) e)).trans (if_pos ⟨h, rfl⟩)
  · rw [if_neg h]
    exact Finset.sum_eq_zero fun l' _ => if_neg fun e => h e.1

/-- The four groups of columns side by side, at an entry. -/
theorem concat_apply (A B C D : Vec Ideal S512x128 .f32) (h) (s : Fin 512) (z : Fin 512) :
    (concatenate S512x512 1 [⟨S512x128, A⟩, ⟨S512x128, B⟩, ⟨S512x128, C⟩, ⟨S512x128, D⟩] h (ix2 s z) : EReal) =
      Cert.KernelIdeal.Own.joined (fun j => A (ix2 s j)) (fun j => B (ix2 s j)) (fun j => C (ix2 s j)) (fun j => D (ix2 s j)) z := by
  unfold Cert.KernelIdeal.Own.joined
  pointwise

/-- The maximum over the rows, at an entry. -/
theorem reduce_apply (x : FVec Ideal S512x100000x128 .f32) (i0 : FVec Ideal S_ .f32) (s : Fin 512) (l : Fin 128) :
    (Host.reduce (FloatOps.maximumf (F := Ideal) (φ := .f32)) x i0 reducesTo_S512x100000x128_S512x128_d1 h_S_ (ix2 s l) : Elt Ideal .f32) =
      Finset.univ.fold max (i0 ix0 : EReal) (fun k : Fin 100000 => (x (ix3 s k l) : EReal)) := by
  rw [show (ix0 : S_.Idx) = Shape.Idx.first h_S_ from funext fun a => a.elim0]
  pointwise

end Cert.ReferenceIdeal.Own
-- ==== Proof.Own.Ref.lean ====
/- The reference at an entry of its result, as sums, maxima and quotients over the rows. -/
module

public import proofs.«01_k».proof.Proof.Own.Scatter
public import Idealize.ShloMosaic.Lib.KernelVsHost
public import Idealize.ShloMosaic.Lib.IdealHost

@[expose] public section

noncomputable section

namespace Cert.ReferenceIdeal.Own

open Cert.ReferenceIdeal Cert.ReferenceIdeal.Gen Cert.ReferenceIdeal.Read Cert.Own
open Idealize.ShloMosaic Idealize.ShloMosaic.TcCoe

/-- A row of the input times a column of the aggregation weights. -/
def prod (x : (⟨2, ![100000, 256]⟩ : Shape).Idx → EReal) (w : (⟨2, ![256, 512]⟩ : Shape).Idx → EReal) (k : Fin 100000) (col : Fin 512) : EReal :=
  ∑ q : Fin 256, x (ix2 k q) * w (ix2 q col)

/-- The sum over a segment's rows. -/
def overSeg (b : (⟨1, ![100000]⟩ : Shape).Idx → BitVec 32) (s : ℕ) (f : Fin 100000 → EReal) : EReal :=
  ∑ k : Fin 100000, if b (ix1 k) = BitVec.ofNat 32 s then f k else 0

/-- The number of a segment's rows, a count of zero read as one. -/
def countSeg (b : (⟨1, ![100000]⟩ : Shape).Idx → BitVec 32) (s : ℕ) : EReal := max 1 (overSeg b s fun _ => 1)

/-- The maximum over a segment's rows. -/
def maxSeg (b : (⟨1, ![100000]⟩ : Shape).Idx → BitVec 32) (s : ℕ) (f : Fin 100000 → EReal) : EReal :=
  Finset.univ.sup fun k : Fin 100000 => if b (ix1 k) = BitVec.ofNat 32 s then f k else ⊥

/-- What the reference leaves at an entry of the result. -/
def rOut (b : (⟨1, ![100000]⟩ : Shape).Idx → BitVec 32) (x : (⟨2, ![100000, 256]⟩ : Shape).Idx → EReal) (w : (⟨2, ![256, 512]⟩ : Shape).Idx → EReal)
    (wo : (⟨2, ![512, 256]⟩ : Shape).Idx → EReal) (bo : (⟨1, ![256]⟩ : Shape).Idx → EReal) (s : Fin 512) (o : Fin 256) : EReal :=
  (∑ z : Fin 512, Cert.KernelIdeal.Own.joined
    (fun j => overSeg b s.val fun k => prod x w k ⟨j.val, by omega⟩)
    (fun j => Ideal.div (overSeg b s.val fun k => prod x w k ⟨128 + j.val, by omega⟩) (countSeg b s.val))
    (fun j => Cert.KernelIdeal.Own.keepFin (maxSeg b s.val fun k => prod x w k ⟨256 + j.val, by omega⟩))
    (fun j => Cert.KernelIdeal.Own.stdOf
      (Ideal.div (overSeg b s.val fun k => prod x w k ⟨384 + j.val, by omega⟩ * prod x w k ⟨384 + j.val, by omega⟩) (countSeg b s.val))
      (Ideal.div (overSeg b s.val fun k => prod x w k ⟨384 + j.val, by omega⟩) (countSeg b s.val) *
        Ideal.div (overSeg b s.val fun k => prod x w k ⟨384 + j.val, by omega⟩) (countSeg b s.val)))
    z * wo (ix2 z o)) + bo (ix1 o)

/-- A segment's word, read as a number. -/
theorem word_hit (w : BitVec 32) (s : Fin 512) : w.toInt = (s.val : Int) ↔ w = BitVec.ofNat 32 s.val := by
  rw [← BitVec.toInt_inj, toInt_small s.val (by omega)]

/-- The word of zero. -/
theorem ofBits_zero : Ideal.ofBits FTy.f32 0x00000000#32 = 0 := by simp [Ideal.ofBits, Ideal.ieee]
/-- The word of one. -/
theorem ofBits_one : Ideal.ofBits FTy.f32 0x3F800000#32 = 1 := Ideal.ofBits_one_f32
/-- The word of minus infinity. -/
theorem ofBits_ninf : Ideal.ofBits FTy.f32 0xFF800000#32 = ⊥ := by simp [Ideal.ofBits, Ideal.ieee]

variable (x0 : (⟨S100000x256, .f32⟩ : BufTy).Contents (Elt Ideal)) (x1 : (⟨S100000, .i32⟩ : BufTy).Contents (Elt Ideal)) (x2 : (⟨S256x512, .f32⟩ : BufTy).Contents (Elt Ideal))

/-- The product of the input and the aggregation weights, at an entry. -/
theorem v0_at (k : Fin 100000) (col : Fin 512) : (val_main_v0 (F := Ideal) x0 x2 (ix2 k col) : EReal) = prod x0 x2 k col := by
  refine (val_main_v0_apply x0 x2 _).trans (Finset.sum_congr rfl fun q _ => congrArg₂ (· * ·) (congrArg x0 (funext fun a => ?_)) (congrArg x2 (funext fun a => ?_)))
  · match a with
    | ⟨0, _⟩ => rfl
    | ⟨1, _⟩ => rfl
  · match a with
    | ⟨0, _⟩ => rfl
    | ⟨1, _⟩ => rfl

/-- The first group of 128 columns. -/
theorem v1_at (k : Fin 100000) (j : Fin 128) : (val_main_v1 (F := Ideal) x0 x2 (ix2 k j) : EReal) = prod x0 x2 k ⟨j.val, by omega⟩ := by
  refine (val_main_v1_apply x0 x2 _).trans (Eq.trans (congrArg _ (funext fun a => ?_)) (v0_at x0 x2 k ⟨j.val, by omega⟩))
  match a with
  | ⟨0, _⟩ => rfl
  | ⟨1, _⟩ => rfl

/-- The second group of 128 columns. -/
theorem v2_at (k : Fin 100000) (j : Fin 128) : (val_main_v2 (F := Ideal) x0 x2 (ix2 k j) : EReal) = prod x0 x2 k ⟨128 + j.val, by omega⟩ := by
  refine (val_main_v2_apply x0 x2 _).trans (Eq.trans (congrArg _ (funext fun a => ?_)) (v0_at x0 x2 k ⟨128 + j.val, by omega⟩))
  match a with
  | ⟨0, _⟩ => rfl
  | ⟨1, _⟩ => rfl

/-- The third group of 128 columns. -/
theorem v3_at (k : Fin 100000) (j : Fin 128) : (val_main_v3 (F := Ideal) x0 x2 (ix2 k j) : EReal) = prod x0 x2 k ⟨256 + j.val, by omega⟩ := by
  refine (val_main_v3_apply x0 x2 _).trans (Eq.trans (congrArg _ (funext fun a => ?_)) (v0_at x0 x2 k ⟨256 + j.val, by omega⟩))
  match a with
  | ⟨0, _⟩ => rfl
  | ⟨1, _⟩ => rfl

/-- The fourth group of 128 columns. -/
theorem v4_at (k : Fin 100000) (j : Fin 128) : (val_main_v4 (F := Ideal) x0 x2 (ix2 k j) : EReal) = prod x0 x2 k ⟨384 + j.val, by omega⟩ := by
  refine (val_main_v4_apply x0 x2 _).trans (Eq.trans (congrArg _ (funext fun a => ?_)) (v0_at x0 x2 k ⟨384 + j.val, by omega⟩))
  match a with
  | ⟨0, _⟩ => rfl
  | ⟨1, _⟩ => rfl

/-- The column of segment words. -/
theorem v6_at (k : Fin 100000) : (val_main_v6 (F := Ideal) x1 (ix2 k 0) : BitVec 32) = x1 (ix1 k) :=
  (val_main_v6_apply x1 _).trans (congrArg x1 (funext fun a => match a with | ⟨0, _⟩ => rfl))

/-- The column of segment words. -/
theorem v9_at (k : Fin 100000) : (val_main_v9 (F := Ideal) x1 (ix2 k 0) : BitVec 32) = x1 (ix1 k) :=
  (val_main_v9_apply x1 _).trans (congrArg x1 (funext fun a => match a with | ⟨0, _⟩ => rfl))

/-- The column of segment words. -/
theorem v13_at (k : Fin 100000) : (val_main_v13 (F := Ideal) x1 (ix2 k 0) : BitVec 32) = x1 (ix1 k) :=
  (val_main_v13_apply x1 _).trans (congrArg x1 (funext fun a => match a with | ⟨0, _⟩ => rfl))

/-- The column of segment words. -/
theorem v33_at (k : Fin 100000) : (val_main_v33 (F := Ideal) x1 (ix2 k 0) : BitVec 32) = x1 (ix1 k) :=
  (val_main_v33_apply x1 _).trans (congrArg x1 (funext fun a => match a with | ⟨0, _⟩ => rfl))

/-- The column of segment words. -/
theorem v37_at (k : Fin 100000) : (val_main_v37 (F := Ideal) x1 (ix2 k 0) : BitVec 32) = x1 (ix1 k) :=
  (val_main_v37_apply x1 _).trans (congrArg x1 (funext fun a => match a with | ⟨0, _⟩ => rfl))

/-- The column of segment words. -/
theorem v43_at (k : Fin 100000) : (val_main_v43 (F := Ideal) x1 (ix2 k 0) : BitVec 32) = x1 (ix1 k) :=
  (val_main_v43_apply x1 _).trans (congrArg x1 (funext fun a => match a with | ⟨0, _⟩ => rfl))

/-- The zeros a sum starts from. -/
theorem v5_at (i : S512x128.Idx) : (val_main_v5 (F := Ideal) i : EReal) = 0 := (val_main_v5_apply i).trans ofBits_zero

/-- The zeros a sum starts from. -/
theorem v8_at (i : S512x128.Idx) : (val_main_v8 (F := Ideal) i : EReal) = 0 := (val_main_v8_apply i).trans ofBits_zero

/-- The zeros a sum starts from. -/
theorem v12_at (i : S512x1.Idx) : (val_main_v12 (F := Ideal) i : EReal) = 0 := (val_main_v12_apply i).trans ofBits_zero

/-- The zeros a sum starts from. -/
theorem v32_at (i : S512x1.Idx) : (val_main_v32 (F := Ideal) i : EReal) = 0 := (val_main_v32_apply i).trans ofBits_zero

/-- The zeros a sum starts from. -/
theorem v36_at (i : S512x128.Idx) : (val_main_v36 (F := Ideal) i : EReal) = 0 := (val_main_v36_apply i).trans ofBits_zero

/-- The zeros a sum starts from. -/
theorem v42_at (i : S512x128.Idx) : (val_main_v42 (F := Ideal) i : EReal) = 0 := (val_main_v42_apply i).trans ofBits_zero

/-- The ones a count adds. -/
theorem v11_at (i : S100000x1.Idx) : (val_main_v11 (F := Ideal) i : EReal) = 1 := (val_main_v11_apply i).trans ofBits_one

/-- The ones a count adds. -/
theorem v31_at (i : S100000x1.Idx) : (val_main_v31 (F := Ideal) i : EReal) = 1 := (val_main_v31_apply i).trans ofBits_one

/-- The sums of the first group. -/
theorem v7_at (s : Fin 512) (j : Fin 128) : (val_main_v7 (F := Ideal) x0 x1 x2 (ix2 s j) : EReal) = overSeg x1 s.val fun k => prod x0 x2 k ⟨j.val, by omega⟩ := by
  unfold val_main_v7
  refine (scatter_wide _ _ _ s j).trans ?_
  rw [v5_at, zero_add]
  exact Finset.sum_congr rfl fun k _ => if_congr (((congrArg (fun w : BitVec 32 => w.toInt = (s.val : Int)) (v6_at x1 k)).to_iff).trans (word_hit _ s)) (v1_at x0 x2 k j) rfl

/-- The sums of the second group. -/
theorem v10_at (s : Fin 512) (j : Fin 128) : (val_main_v10 (F := Ideal) x0 x1 x2 (ix2 s j) : EReal) = overSeg x1 s.val fun k => prod x0 x2 k ⟨128 + j.val, by omega⟩ := by
  unfold val_main_v10
  refine (scatter_wide _ _ _ s j).trans ?_
  rw [v8_at, zero_add]
  exact Finset.sum_congr rfl fun k _ => if_congr (((congrArg (fun w : BitVec 32 => w.toInt = (s.val : Int)) (v9_at x1 k)).to_iff).trans (word_hit _ s)) (v2_at x0 x2 k j) rfl

/-- The sums of the fourth group. -/
theorem v38_at (s : Fin 512) (j : Fin 128) : (val_main_v38 (F := Ideal) x0 x1 x2 (ix2 s j) : EReal) = overSeg x1 s.val fun k => prod x0 x2 k ⟨384 + j.val, by omega⟩ := by
  unfold val_main_v38
  refine (scatter_wide _ _ _ s j).trans ?_
  rw [v36_at, zero_add]
  exact Finset.sum_congr rfl fun k _ => if_congr (((congrArg (fun w : BitVec 32 => w.toInt = (s.val : Int)) (v37_at x1 k)).to_iff).trans (word_hit _ s)) (v4_at x0 x2 k j) rfl

/-- The sums of the fourth group's squares. -/
theorem v44_at (s : Fin 512) (j : Fin 128) : (val_main_v44 (F := Ideal) x0 x1 x2 (ix2 s j) : EReal) = overSeg x1 s.val fun k => prod x0 x2 k ⟨384 + j.val, by omega⟩ * prod x0 x2 k ⟨384 + j.val, by omega⟩ := by
  unfold val_main_v44
  refine (scatter_wide _ _ _ s j).trans ?_
  rw [v42_at, zero_add]
  exact Finset.sum_congr rfl fun k _ => if_congr (((congrArg (fun w : BitVec 32 => w.toInt = (s.val : Int)) (v43_at x1 k)).to_iff).trans (word_hit _ s)) (congrArg₂ (· * ·) (v4_at x0 x2 k j) (v4_at x0 x2 k j)) rfl

/-- The counts. -/
theorem v14_at (s : Fin 512) : (val_main_v14 (F := Ideal) x1 (ix2 s 0) : EReal) = overSeg x1 s.val fun _ => 1 := by
  unfold val_main_v14
  refine (scatter_one _ _ _ s 0).trans ?_
  rw [v12_at, zero_add]
  exact Finset.sum_congr rfl fun k _ => if_congr (((congrArg (fun w : BitVec 32 => w.toInt = (s.val : Int)) (v13_at x1 k)).to_iff).trans (word_hit _ s)) (v11_at _) rfl

/-- The counts, at least one. -/
theorem v15_at (s : Fin 512) : (val_main_v15 (F := Ideal) x1 (ix2 s 0) : EReal) = countSeg x1 s.val :=
  congrArg₂ max ((val_main_call0_v1_apply _).trans ofBits_one) (v14_at x1 s)

/-- The counts. -/
theorem v34_at (s : Fin 512) : (val_main_v34 (F := Ideal) x1 (ix2 s 0) : EReal) = overSeg x1 s.val fun _ => 1 := by
  unfold val_main_v34
  refine (scatter_one _ _ _ s 0).trans ?_
  rw [v32_at, zero_add]
  exact Finset.sum_congr rfl fun k _ => if_congr (((congrArg (fun w : BitVec 32 => w.toInt = (s.val : Int)) (v33_at x1 k)).to_iff).trans (word_hit _ s)) (v31_at _) rfl

/-- The counts, at least one. -/
theorem v35_at (s : Fin 512) : (val_main_v35 (F := Ideal) x1 (ix2 s 0) : EReal) = countSeg x1 s.val :=
  congrArg₂ max ((val_main_call3_v1_apply _).trans ofBits_one) (v34_at x1 s)

/-- The counts along every column. -/
theorem v16_at (s : Fin 512) (j : Fin 128) : (val_main_v16 (F := Ideal) x1 (ix2 s j) : EReal) = countSeg x1 s.val := by
  refine (val_main_v16_apply x1 _).trans (Eq.trans (congrArg _ (funext fun a => ?_)) (v15_at x1 s))
  match a with
  | ⟨0, _⟩ => rfl
  | ⟨1, _⟩ => rfl

/-- The counts along every column. -/
theorem v39_at (s : Fin 512) (j : Fin 128) : (val_main_v39 (F := Ideal) x1 (ix2 s j) : EReal) = countSeg x1 s.val := by
  refine (val_main_v39_apply x1 _).trans (Eq.trans (congrArg _ (funext fun a => ?_)) (v35_at x1 s))
  match a with
  | ⟨0, _⟩ => rfl
  | ⟨1, _⟩ => rfl

/-- The counts along every column. -/
theorem v45_at (s : Fin 512) (j : Fin 128) : (val_main_v45 (F := Ideal) x1 (ix2 s j) : EReal) = countSeg x1 s.val := by
  refine (val_main_v45_apply x1 _).trans (Eq.trans (congrArg _ (funext fun a => ?_)) (v35_at x1 s))
  match a with
  | ⟨0, _⟩ => rfl
  | ⟨1, _⟩ => rfl

/-- The means of the second group. -/
theorem v17_at (s : Fin 512) (j : Fin 128) : (val_main_v17 (F := Ideal) x0 x1 x2 (ix2 s j) : EReal) =
    Ideal.div (overSeg x1 s.val fun k => prod x0 x2 k ⟨128 + j.val, by omega⟩) (countSeg x1 s.val) := by
  refine (val_main_v17_apply x0 x1 x2 _).trans ?_
  exact congrArg₂ Ideal.div (v10_at x0 x1 x2 s j) (v16_at x1 s j)

/-- The means of the fourth group. -/
theorem v40_at (s : Fin 512) (j : Fin 128) : (val_main_v40 (F := Ideal) x0 x1 x2 (ix2 s j) : EReal) =
    Ideal.div (overSeg x1 s.val fun k => prod x0 x2 k ⟨384 + j.val, by omega⟩) (countSeg x1 s.val) := by
  refine (val_main_v40_apply x0 x1 x2 _).trans ?_
  exact congrArg₂ Ideal.div (v38_at x0 x1 x2 s j) (v39_at x1 s j)

/-- The means of the fourth group's squares. -/
theorem v46_at (s : Fin 512) (j : Fin 128) : (val_main_v46 (F := Ideal) x0 x1 x2 (ix2 s j) : EReal) =
    Ideal.div (overSeg x1 s.val fun k => prod x0 x2 k ⟨384 + j.val, by omega⟩ * prod x0 x2 k ⟨384 + j.val, by omega⟩) (countSeg x1 s.val) := by
  refine (val_main_v46_apply x0 x1 x2 _).trans ?_
  exact congrArg₂ Ideal.div (v44_at x0 x1 x2 s j) (v45_at x1 s j)

/-- The deviations of the fourth group. -/
theorem v52_at (s : Fin 512) (j : Fin 128) : (val_main_v52 (F := Ideal) x0 x1 x2 (ix2 s j) : EReal) =
    Cert.KernelIdeal.Own.stdOf
      (Ideal.div (overSeg x1 s.val fun k => prod x0 x2 k ⟨384 + j.val, by omega⟩ * prod x0 x2 k ⟨384 + j.val, by omega⟩) (countSeg x1 s.val))
      (Ideal.div (overSeg x1 s.val fun k => prod x0 x2 k ⟨384 + j.val, by omega⟩) (countSeg x1 s.val) *
        Ideal.div (overSeg x1 s.val fun k => prod x0 x2 k ⟨384 + j.val, by omega⟩) (countSeg x1 s.val)) := by
  have e48 : (val_main_v48 (F := Ideal) x0 x1 x2 (ix2 s j) : EReal) = val_main_v46 (F := Ideal) x0 x1 x2 (ix2 s j) -
      val_main_v40 (F := Ideal) x0 x1 x2 (ix2 s j) * val_main_v40 (F := Ideal) x0 x1 x2 (ix2 s j) := by
    rw [val_main_v48_apply, val_main_v47_apply]; rfl
  have e51 : (val_main_v51 (F := Ideal) x0 x1 x2 (ix2 s j) : EReal) = max (val_main_v48 (F := Ideal) x0 x1 x2 (ix2 s j)) (0 : EReal) + Ideal.ofBits FTy.f32 925353388#32 := by
    rw [val_main_v51_apply, val_main_v49_apply, val_main_v50_apply, val_main_cst_13_apply, val_main_call4_v0_apply]
    rw [show (val_main_call4_cst (F := Ideal) (idx_main_call4_v0 (ix2 s j)) : EReal) = 0 from ofBits_zero]
    rfl
  rw [v46_at, v40_at] at e48
  rw [e48] at e51
  have key : ∀ y y' : EReal, y = y' → (FloatOps.hostUnary (F := Ideal) (φ := .f32) .sqrt y : EReal) = Ideal.sqrt y' := fun _ _ h => congrArg Ideal.sqrt h
  unfold Cert.KernelIdeal.Own.stdOf
  exact (val_main_v52_apply x0 x1 x2 _).trans (key _ _ e51)

/-- A row where its word is the segment, and less than everything elsewhere. -/
theorem v25_at (s : Fin 512) (k : Fin 100000) (j : Fin 128) : (val_main_v25 (F := Ideal) x0 x1 x2 (ix3 s k j) : EReal) =
    if x1 (ix1 k) = BitVec.ofNat 32 s.val then prod x0 x2 k ⟨256 + j.val, by omega⟩ else ⊥ := by
  have e21 : (val_main_v21 (F := Ideal) x1 (ix3 s k 0) : BitVec 32) = x1 (ix1 k) :=
    (val_main_v21_apply x1 _).trans ((val_main_v18_apply x1 _).trans (congrArg x1 (funext fun a => match a with | ⟨0, _⟩ => rfl)))
  have e22 : (val_main_v22 (F := Ideal) (ix3 s k 0) : BitVec 32) = BitVec.ofNat 32 s.val :=
    (val_main_v22_apply _).trans ((val_main_v20_apply _).trans rfl)
  have ec : (val_main_call1_v1 (F := Ideal) x1 (ix3 s k j) : BitVec 1) = IntOp.cmpi .eq (x1 (ix1 k)) (BitVec.ofNat 32 s.val) :=
    (val_main_call1_v1_apply x1 _).trans (Eq.trans (congrArg (val_main_v23 (F := Ideal) x1)
      (funext fun a => match a with | ⟨0, _⟩ => rfl | ⟨1, _⟩ => rfl | ⟨2, _⟩ => rfl : _ = ix3 s k 0)) (congrArg₂ (IntOp.cmpi .eq) e21 e22))
  have et : (val_main_call1_v2 (F := Ideal) x0 x2 (ix3 s k j) : EReal) = prod x0 x2 k ⟨256 + j.val, by omega⟩ :=
    (val_main_call1_v2_apply x0 x2 _).trans ((val_main_v24_apply x0 x2 _).trans (Eq.trans (congrArg (val_main_v3 (F := Ideal) x0 x2)
      (show _ = ix2 k j from funext fun a => match a with | ⟨0, _⟩ => rfl | ⟨1, _⟩ => rfl)) (v3_at x0 x2 k j)))
  have ef : (val_main_call1_v3 (F := Ideal) (ix3 s k j) : EReal) = ⊥ := (val_main_call1_v3_apply _).trans ofBits_ninf
  refine (val_main_v25_apply x0 x1 x2 _).trans ?_
  rw [ec, et, ef]
  by_cases h : x1 (ix1 k) = BitVec.ofNat 32 s.val
  · rw [if_pos h, h]
    simp [Scalar.select, IntOp.cmpi]
  · rw [if_neg h]
    have hb : (x1 (ix1 k) == BitVec.ofNat 32 s.val) = false := beq_eq_false_iff_ne.mpr h
    simp [Scalar.select, IntOp.cmpi, hb]

/-- The maxima of the third group. -/
theorem v26_at (s : Fin 512) (j : Fin 128) : (val_main_v26 (F := Ideal) x0 x1 x2 (ix2 s j) : EReal) =
    maxSeg x1 s.val fun k => prod x0 x2 k ⟨256 + j.val, by omega⟩ := by
  unfold val_main_v26
  refine (reduce_apply _ _ s j).trans ?_
  rw [show (val_main_cst_5 (F := Ideal) ix0 : EReal) = ⊥ from ofBits_ninf]
  exact (congrArg (fun f => Finset.univ.fold max (⊥ : EReal) f) (funext fun k => v25_at x0 x1 x2 s k j)).trans rfl

/-- The maxima kept where they are finite. -/
theorem v30_at (s : Fin 512) (j : Fin 128) : (val_main_v30 (F := Ideal) x0 x1 x2 (ix2 s j) : EReal) =
    Cert.KernelIdeal.Own.keepFin (maxSeg x1 s.val fun k => prod x0 x2 k ⟨256 + j.val, by omega⟩) := by
  rw [← v26_at x0 x1 x2 s j]
  unfold Cert.KernelIdeal.Own.keepFin
  rw [Ideal.xori_weird_eq_hostAbsf_olt_inf]
  rw [val_main_v30_apply, val_main_v29_apply, val_main_v27_apply, val_main_v28_apply, val_main_cst_6_apply, val_main_call2_v1_apply]
  rw [show (val_main_call2_v0 (F := Ideal) (idx_main_call2_v1 (ix2 s j)) : EReal) = 0 from ofBits_zero]

variable (x3 : (⟨S512x256, .f32⟩ : BufTy).Contents (Elt Ideal)) (x4 : (⟨S256, .f32⟩ : BufTy).Contents (Elt Ideal))

/-- The reference's result at an entry. -/
theorem v57_at (s : Fin 512) (o : Fin 256) : (val_main_v57 (F := Ideal) x0 x1 x2 x3 x4 (ix2 s o) : EReal) = rOut x1 x0 x2 x3 x4 s o := by
  have e53 : ∀ z : Fin 512, (val_main_v53 (F := Ideal) x0 x1 x2 (ix2 s z) : EReal) = _ := fun z => by
    unfold val_main_v53
    exact concat_apply _ _ _ _ _ s z
  have e54 : (val_main_v54 (F := Ideal) x0 x1 x2 x3 (ix2 s o) : EReal) = ∑ z : Fin 512, (val_main_v53 (F := Ideal) x0 x1 x2 (ix2 s z) : EReal) * x3 (ix2 z o) := by
    refine (val_main_v54_apply x0 x1 x2 x3 _).trans (Finset.sum_congr rfl fun q _ => congrArg₂ (· * ·) (congrArg _ (funext fun a => ?_)) (congrArg x3 (funext fun a => ?_)))
    · match a with
      | ⟨0, _⟩ => rfl
      | ⟨1, _⟩ => rfl
    · match a with
      | ⟨0, _⟩ => rfl
      | ⟨1, _⟩ => rfl
  have e56 : (val_main_v56 (F := Ideal) x4 (ix2 s o) : EReal) = x4 (ix1 o) :=
    (val_main_v56_apply x4 _).trans ((val_main_v55_apply x4 _).trans (congrArg x4 (funext fun a => match a with | ⟨0, _⟩ => rfl)))
  refine (val_main_v57_apply x0 x1 x2 x3 x4 _).trans ?_
  refine congrArg₂ (· + ·) (e54.trans (Finset.sum_congr rfl fun z _ => congrArg (· * x3 (ix2 z o)) ((e53 z).trans ?_))) e56
  exact congrFun (Cert.KernelIdeal.Own.joined_congr (funext fun j => v7_at x0 x1 x2 s j) (funext fun j => v17_at x0 x1 x2 s j)
    (funext fun j => v30_at x0 x1 x2 s j) (funext fun j => v52_at x0 x1 x2 s j)) z

end Cert.ReferenceIdeal.Own
-- ==== Proof.Own.Equation.lean ====
/- The equation of the two results: the sums of the rows past the last are empty, a sum of rows times a column is the sum
   of the rows' products with it, and a product with one over a count is the quotient. -/
module

public import proofs.«01_k».proof.Proof.Own.Result
public import proofs.«01_k».proof.Proof.Own.Ref

@[expose] public section

noncomputable section

namespace Cert.Own

open Idealize.ShloMosaic Cert.KernelIdeal.Own Cert.ReferenceIdeal.Own

/-- A sum over the grid's rows of terms that vanish past the last row. -/
theorem sum_rows (f : ℕ → EReal) (h : ∀ k, 100000 ≤ k → f k = 0) : (∑ k ∈ Finset.range 100352, f k) = ∑ k : Fin 100000, f k.val := by
  rw [← Finset.sum_range (n := 100000) f]
  refine (Finset.sum_subset (fun k hk => ?_) fun k _ hk => ?_).symm
  · rw [Finset.mem_range] at hk ⊢; omega
  · rw [Finset.mem_range] at hk; exact h k (by omega)

/-- A maximum over the grid's rows of terms that are least past the last row. -/
theorem sup_rows (f : ℕ → EReal) (h : ∀ k, 100000 ≤ k → f k = ⊥) : (Finset.range 100352).sup f = Finset.univ.sup fun k : Fin 100000 => f k.val := by
  refine le_antisymm (Finset.sup_le fun k hk => ?_) (Finset.sup_le fun k _ => ?_)
  · by_cases h' : k < 100000
    · exact Finset.le_sup (f := fun k : Fin 100000 => f k.val) (Finset.mem_univ ⟨k, h'⟩)
    · rw [h k (by omega)]; exact bot_le
  · exact Finset.le_sup (f := f) (Finset.mem_range.mpr (lt_trans k.isLt (by omega)))

/-- No segment takes the rows past the last. -/
theorem past_ne (b : (⟨1, ![100000]⟩ : Shape).Idx → BitVec 32) (s : ℕ) (hs : s < 512) (k : ℕ) (hk : 100000 ≤ k) : ¬word b k = BitVec.ofNat 32 s := by
  rw [word_of_ge b (by omega)]
  intro e
  have e' := congrArg BitVec.toNat e
  rw [BitVec.toNat_ofNat, BitVec.toNat_ofNat] at e'
  omega

/-- The input's row below the last. -/
theorem rowOf_fin (x : (⟨2, ![100000, 256]⟩ : Shape).Idx → EReal) (k : Fin 100000) (q : Fin 256) : rowOf x k.val q = x (ix2 k q) := by
  unfold rowOf; rw [dif_pos k.isLt]

variable (b : (⟨1, ![100000]⟩ : Shape).Idx → BitVec 32) (x : (⟨2, ![100000, 256]⟩ : Shape).Idx → EReal) (w : (⟨2, ![256, 512]⟩ : Shape).Idx → EReal)

/-- A row's product with a column, as the running sums write it. -/
theorem prod_of_row (k : Fin 100000) (c c' : Fin 512) (h : c = c') : (∑ q : Fin 256, rowOf x k.val q * w (ix2 q c)) = prod x w k c' := by
  subst h
  exact Finset.sum_congr rfl fun q _ => congrArg (· * w (ix2 q c)) (rowOf_fin x k q)

/-- A sum over the grid's rows of a segment is the sum over its rows. -/
theorem rows_seg (s : ℕ) (hs : s < 512) (f : ℕ → EReal) (g : Fin 100000 → EReal) (h : ∀ k : Fin 100000, f k.val = g k) :
    (∑ k ∈ Finset.range 100352, if word b k = BitVec.ofNat 32 s then f k else 0) = overSeg b s g := by
  rw [sum_rows _ fun k hk => if_neg (past_ne b s hs k hk)]
  refine Finset.sum_congr rfl fun k _ => ?_
  rw [word_of_lt b k.isLt, h]

/-- The sums of the input's rows. -/
theorem segS_row (s : ℕ) (hs : s < 512) (q : Fin 256) : segS b x w 100352 s ⟨q.val, by omega⟩ = overSeg b s fun k => x (ix2 k q) := by
  unfold segS
  refine rows_seg b s hs _ _ fun k => ?_
  unfold sumVal
  rw [dif_pos q.isLt]
  exact rowOf_fin x k q

/-- The sums of the squares. -/
theorem segS_sq (s : ℕ) (hs : s < 512) (j : Fin 128) : segS b x w 100352 s ⟨256 + j.val, by omega⟩ =
    overSeg b s fun k => prod x w k ⟨384 + j.val, by omega⟩ * prod x w k ⟨384 + j.val, by omega⟩ := by
  unfold segS
  refine rows_seg b s hs _ _ fun k => ?_
  unfold sumVal
  rw [dif_neg (by show ¬256 + j.val < 256; omega)]
  have e := prod_of_row x w k ⟨256 + (128 + ((256 + j.val) - 256)), by omega⟩ ⟨384 + j.val, by omega⟩ (Fin.ext (by show 256 + (128 + ((256 + j.val) - 256)) = 384 + j.val; omega))
  exact congrArg₂ (· * ·) e e

/-- The counts. -/
theorem segC_eq (s : ℕ) (hs : s < 512) : segC b 100352 s = overSeg b s fun _ => 1 := by
  unfold segC
  exact rows_seg b s hs (fun _ => 1) _ fun _ => rfl

/-- The maxima. -/
theorem segM_eq (s : ℕ) (hs : s < 512) (j : Fin 128) : segM b x w 100352 s j = maxSeg b s fun k => prod x w k ⟨256 + j.val, by omega⟩ := by
  unfold segM
  rw [sup_rows _ fun k hk => if_neg (past_ne b s hs k hk)]
  unfold maxSeg
  refine Finset.sup_congr rfl fun k _ => ?_
  rw [word_of_lt b k.isLt]
  refine if_congr Iff.rfl ?_ rfl
  unfold maxVal
  exact prod_of_row x w k _ _ rfl

/-- Real numbers summed, as an extended real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable (hx : ∀ i, x i ≠ ⊤ ∧ x i ≠ ⊥) (hw : ∀ i, w i ≠ ⊤ ∧ w i ≠ ⊥)

include hx hw in
/-- A segment's summed rows times a column are its rows' products with the column, summed. -/
theorem rowDot_eq (s : ℕ) (hs : s < 512) (c : Fin 512) : rowDot b x w s c = overSeg b s fun k => prod x w k c := by
  obtain ⟨x', rfl⟩ : ∃ x' : (⟨2, ![100000, 256]⟩ : Shape).Idx → ℝ, x = fun i => (x' i : EReal) :=
    ⟨fun i => (x i).toReal, funext fun i => (EReal.coe_toReal (hx i).1 (hx i).2).symm⟩
  obtain ⟨w', rfl⟩ : ∃ w' : (⟨2, ![256, 512]⟩ : Shape).Idx → ℝ, w = fun i => (w' i : EReal) :=
    ⟨fun i => (w i).toReal, funext fun i => (EReal.coe_toReal (hw i).1 (hw i).2).symm⟩
  unfold rowDot
  have e1 : ∀ q : Fin 256, (segS b (fun i => (x' i : EReal)) (fun i => (w' i : EReal)) 100352 s ⟨q.val, by omega⟩ * (w' (ix2 q c) : EReal) : EReal) =
      (((∑ k : Fin 100000, if b (ix1 k) = BitVec.ofNat 32 s then x' (ix2 k q) else 0) * w' (ix2 q c) : ℝ) : EReal) := fun q => by
    rw [segS_row b _ _ s hs q, EReal.coe_mul, coe_sum]
    unfold overSeg
    refine congrArg (· * (w' (ix2 q c) : EReal)) (Finset.sum_congr rfl fun k _ => ?_)
    split <;> rfl
  have e2 : (overSeg b s fun k => prod (fun i => (x' i : EReal)) (fun i => (w' i : EReal)) k c) =
      ((∑ k : Fin 100000, if b (ix1 k) = BitVec.ofNat 32 s then (∑ q : Fin 256, x' (ix2 k q) * w' (ix2 q c)) else 0 : ℝ) : EReal) := by
    rw [coe_sum]
    unfold overSeg prod
    refine Finset.sum_congr rfl fun k _ => ?_
    split
    · rw [coe_sum]; exact Finset.sum_congr rfl fun q _ => (EReal.coe_mul _ _).symm
    · rfl
  rw [e2, Finset.sum_congr rfl fun q _ => e1 q, ← coe_sum]
  refine congrArg _ ?_
  rw [Finset.sum_congr rfl fun q _ => Finset.sum_mul _ _ _, Finset.sum_comm]
  refine Finset.sum_congr rfl fun k _ => ?_
  split
  · rfl
  · simp

/-- The count is not zero. -/
theorem count_ne (s : ℕ) : countSeg b s ≠ 0 := by
  unfold countSeg
  exact (lt_of_lt_of_le zero_lt_one (le_max_left _ _)).ne'

/-- A product with one over the count is the quotient by it. -/
theorem mul_invc (s : ℕ) (hs : s < 512) (y : EReal) : y * invc (segC b 100352 s) = Ideal.div y (countSeg b s) := by
  unfold invc
  rw [segC_eq b s hs, max_comm]
  exact Ideal.mul_one_div (count_ne b s)

include hx hw in
/-- The two results agree at every entry. -/
theorem out_eq (wo : (⟨2, ![512, 256]⟩ : Shape).Idx → EReal) (bo : (⟨1, ![256]⟩ : Shape).Idx → EReal) (s : Fin 512) (o : Fin 256) :
    kOut b x w wo bo s o = rOut b x w wo bo s o := by
  unfold kOut rOut
  refine congrArg (· + bo (ix1 o)) (Finset.sum_congr rfl fun z _ => congrArg (· * wo (ix2 z o)) ?_)
  refine congrFun (joined_congr (funext fun j => ?_) (funext fun j => ?_) (funext fun j => ?_) (funext fun j => ?_)) z
  · exact rowDot_eq b x w hx hw s.val s.isLt _
  · rw [mul_invc b s.val s.isLt, rowDot_eq b x w hx hw s.val s.isLt]
  · rw [segM_eq b x w s.val s.isLt]
  · rw [mul_invc b s.val s.isLt, mul_invc b s.val s.isLt, rowDot_eq b x w hx hw s.val s.isLt, segS_sq b x w s.val s.isLt]

end Cert.Own
-- ==== Proof.Own.Final.lean ====
/- The equation of the kernel with the reference. -/
module

public import proofs.«01_k».proof.Defs
public import proofs.«01_k».proof.Proof.Own.Pre
public import proofs.«01_k».proof.Proof.Own.Equation

@[expose] public section

namespace Cert.Own

open Idealize.ShloMosaic Idealize.ShloMosaic.TcCoe Idealize.SL.Sem

/-- The kernel and the reference, run on the same arguments over exact arithmetic, end with equal results. -/
theorem algebraic : Cert.algebraic_KernelIdeal_ReferenceIdeal_pre_sorted_finite := fun m g m' g' h ha => by
  have hr : ∀ (c : Dev Cert.KernelIdeal.nD) (n : Fin 100000), (Cert.KernelIdeal.Own.argB m c (ix1 n)).toNat < 512 :=
    fun c n => range_of_pre' _ _ _ _ _ (h c).1 n
  have hm : ∀ (c : Dev Cert.KernelIdeal.nD) (a a' : Fin 100000), a.val ≤ a'.val →
      (Cert.KernelIdeal.Own.argB m c (ix1 a)).toNat ≤ (Cert.KernelIdeal.Own.argB m c (ix1 a')).toNat :=
    fun c a a' hab => mono_of_pre _ _ _ _ _ (hr c) (h c).2.1 a a' hab
  have hH := Cert.KernelIdeal.Own.hyps_of_range m hr
  refine ⟨fun c => Cert.KernelIdeal.Own.result m c, ?_, ?_⟩
  · refine (θ_run Cert.KernelIdeal.defs _ _).mono (fun r e c => ?_) (Cert.KernelIdeal.Value.run_blocks m g hH)
    exact ⟨(e c).1.trans (Cert.KernelIdeal.Own.final_o m hH c (hr c) (hm c)), (e c).2⟩
  · refine (θ_run Cert.ReferenceIdeal.defs _ _).mono (fun r e c => ?_) (Cert.ReferenceIdeal.Value.run (F := Ideal) m' g')
    refine ⟨(e c).1.trans ?_, (e c).2⟩
    obtain ⟨a0, a1, a2, a3, a4⟩ := ha c
    refine (Cert.ReferenceIdeal.Read.val_main_v57_eq m' c).trans ?_
    rw [a0, a1, a2, a3, a4]
    funext i
    idx_vars i
    refine (Cert.ReferenceIdeal.Own.v57_at _ _ _ _ _ _ _).trans ?_
    exact (out_eq _ _ _ (fun i => fin_of_pre _ _ _ _ _ (h c).2.2.1 i) (fun i => wfin_of_pre _ _ _ _ _ (h c).2.2.2 i) _ _ _ _).symm

end Cert.Own
-- ==== Proof.lean ====
module

public import proofs.«01_k».proof.Defs
public import proofs.«01_k».proof.Proof.Own.Frames
public import proofs.«01_k».proof.Proof.Own.Final

@[expose] public section

noncomputable section

namespace Cert.Proof

/-- Every claim of this certificate. -/
theorem claim : Cert.Claim :=
  ⟨Cert.Kernel.Gen.facts, Cert.KernelIdeal.Gen.facts, Cert.ReferenceIdeal.Gen.facts, Cert.Pre_in_range.Gen.facts,
    Cert.Pre_sorted_finite.Gen.facts, Cert.Own.frame_kernel, Cert.Own.frame_ideal, Cert.Own.frame_ideal_sorted,
    Cert.Own.frame_reference, Cert.Own.frame_reference_sorted, trivial, Cert.Own.algebraic⟩

end Cert.Proof

end
